-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 32]⟩ ⟨2, ![1024, 1024]⟩ 1 32 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = m' (((0 : Dev Cert.SiluIdeal.nD).tc : Thread Cert.SiluIdeal.nD Cert.SiluIdeal.τ).loc Cert.SiluIdeal.main_arg1)) →
    ∃ (v0 : Buf (Elt Ideal) (((0 : Dev Cert.SiluIdeal.nD).tc : Thread Cert.SiluIdeal.nD Cert.SiluIdeal.τ).loc Cert.SiluIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 1024]⟩ ⟨2, ![1024, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v7) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def algebraic_KernelIdeal_ReferenceIdeal_on_unclipped [hKernelIdeal : Cert.KernelIdeal.Facts] [hReferenceIdeal : Cert.ReferenceIdeal.Facts] [hOn_unclipped : Cert.On_unclipped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![32, 1024]⟩ : Shape).Idx, (Layout.block ⟨2, ![32, 1024]⟩ ⟨2, ![1024, 1024]⟩ 0 32 c ((Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![32, 1024]⟩ : Shape).Idx → _) i = 1#1 → r.2.mem ((c.tc : Thread Cert.KernelIdeal.nD Cert.KernelIdeal.τ).loc Cert.KernelIdeal.main_v1) i = (Layout.block ⟨2, ![32, 1024]⟩ ⟨2, ![1024, 1024]⟩ 0 32 c v0 : (⟨2, ![32, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 1024]⟩ : Shape).Idx, (Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v8) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hOn_unclipped : Cert.On_unclipped.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ preserves_Kernel_KernelIdeal
    ∧ algebraic_KernelIdeal_SiluIdeal (hKernelIdeal := hKernelIdeal) (hSiluIdeal := hSiluIdeal)
    ∧ algebraic_KernelIdeal_ReferenceIdeal_on_unclipped (hKernelIdeal := hKernelIdeal) (hReferenceIdeal := hReferenceIdeal) (hOn_unclipped := hOn_unclipped)
-- ==== On_unclipped.lean ====
abbrev S1024x1024 : Shape := ⟨2, ![1024, 1024]⟩
abbrev S_ : Shape := ⟨0, ![]⟩

class Facts : Prop where
  bitsLt_bf16_f32 : FTy.bits .bf16 < FTy.bits .f32
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def fn {F : FTy → Type} [FloatOps F] (main_arg0 : FVec F S1024x1024 .bf16) (main_arg1 : FVec F S1024x1024 .bf16) : IVec S1024x1024 1 :=
  let main_v0 : FVec F S1024x1024 .f32 := (extf .f32 · bitsLt_bf16_f32) main_arg0
  let main_v1 : FVec F S1024x1024 .f32 := (extf .f32 · bitsLt_bf16_f32) main_arg1
  let main_v2 : FVec F S1024x1024 .f32 := (fun l r => Host.dotGeneral dot_S1024x1024_S1024x1024_S1024x1024_1_0_0_1_n_n none l r) main_v0 main_v1
  let main_cst : FVec F S_ .f32 := constant S_ .f32 0xC2700000#32
  let main_v3 : FVec F S1024x1024 .f32 := broadcastInDim S1024x1024 ![] bcast_S_S1024x1024 main_cst
  let main_v4 : IVec S1024x1024 1 := cmpf .oge main_v2 main_v3
  let main_cst_0 : FVec F S_ .f32 := constant S_ .f32 0x42700000#32
  let main_v5 : FVec F S1024x1024 .f32 := broadcastInDim S1024x1024 ![] bcast_S_S1024x1024 main_cst_0
  let main_v6 : IVec S1024x1024 1 := cmpf .ole main_v2 main_v5
  let main_v7 : IVec S1024x1024 1 := andi main_v4 main_v6
  main_v7
-- ==== Kernel.lean ====
abbrev S1024x32 : Shape := ⟨2, ![1024, 32]⟩
abbrev S1024x1024 : Shape := ⟨2, ![1024, 1024]⟩
abbrev S32x1024 : Shape := ⟨2, ![32, 1024]⟩
abbrev S32x32x32 : Shape := ⟨3, ![32, 32, 32]⟩
abbrev S32 : Shape := ⟨1, ![32]⟩
abbrev S_ : Shape := ⟨0, ![]⟩
abbrev S1 : Shape := ⟨1, ![1]⟩
abbrev S1x32x32 : Shape := ⟨3, ![1, 32, 32]⟩
abbrev S32x32 : Shape := ⟨2, ![32, 32]⟩

abbrev nBuf : Space → Nat
  | .hbm => 3
  | .vmem => 4
  | .smem => 0
  | _ => 0

abbrev bufTy : (tb : Table) → Fin (tcTables nBuf tb) → BufTy
  | .hbm, ⟨0, _⟩ => ⟨S1024x32, .bf16⟩
  | .hbm, ⟨1, _⟩ => ⟨S1024x1024, .bf16⟩
  | .hbm, ⟨2, _⟩ => ⟨S32x1024, .f32⟩
  | .local _ .vmem, ⟨0, _⟩ => ⟨S1024x32, .bf16⟩
  | .local _ .vmem, ⟨1, _⟩ => ⟨S1024x1024, .bf16⟩
  | .local _ .vmem, ⟨2, _⟩ => ⟨S32x1024, .f32⟩
  | .local _ .vmem, ⟨3, _⟩ => ⟨S32x32x32, .bf16⟩
  | _, _ => ⟨S1024x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_132 : BitVec 32 := 0#32
  let c0_i32_133 : BitVec 32 := 0#32
  ![v2.toNat, 0, 0]
def k0_off2 (d0 : Dev nD) (c1_i32_125 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v128 : BitVec 32 := Scalar.addi v2 c1_i32_125
  let c32_i32_126 : BitVec 32 := 32#32
  let v129 : BitVec 32 := Scalar.remsi v128 c32_i32_126
  let c32_i32_127 : BitVec 32 := 32#32
  let v130 : BitVec 32 := Scalar.muli v129 c32_i32_127
  let c0_i32_134 : BitVec 32 := 0#32
  ![v130.toNat, 0]
def k0_dev32 (d0 : Dev nD) : Nat :=
  let c0_i32_131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_125 : BitVec 32 := 1#32
  let v128 : BitVec 32 := Scalar.addi v2 c1_i32_125
  let c32_i32_126 : BitVec 32 := 32#32
  let v129 : BitVec 32 := Scalar.remsi v128 c32_i32_126
  let c1_i32_130 : BitVec 32 := 1#32
  let v131 : BitVec 32 := Scalar.muli v129 c1_i32_130
  let v132 : BitVec 32 := Scalar.addi c0_i32_131 v131
  v132.toNat
def k0_dev33 (d0 : Dev nD) : Nat :=
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_135 : BitVec 32 := 2#32
  let v140 : BitVec 32 := Scalar.addi v2 c2_i32_135
  let c32_i32_136 : BitVec 32 := 32#32
  let v141 : BitVec 32 := Scalar.remsi v140 c32_i32_136
  let c1_i32_140 : BitVec 32 := 1#32
  let v143 : BitVec 32 := Scalar.muli v141 c1_i32_140
  let v144 : BitVec 32 := Scalar.addi c0_i32_141 v143
  v144.toNat
def k0_dev34 (d0 : Dev nD) : Nat :=
  let c0_i32_151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_145 : BitVec 32 := 3#32
  let v152 : BitVec 32 := Scalar.addi v2 c3_i32_145
  let c32_i32_146 : BitVec 32 := 32#32
  let v153 : BitVec 32 := Scalar.remsi v152 c32_i32_146
  let c1_i32_150 : BitVec 32 := 1#32
  let v155 : BitVec 32 := Scalar.muli v153 c1_i32_150
  let v156 : BitVec 32 := Scalar.addi c0_i32_151 v155
  v156.toNat
def k0_dev35 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_155 : BitVec 32 := 4#32
  let v164 : BitVec 32 := Scalar.addi v2 c4_i32_155
  let c32_i32_156 : BitVec 32 := 32#32
  let v165 : BitVec 32 := Scalar.remsi v164 c32_i32_156
  let c1_i32_160 : BitVec 32 := 1#32
  let v167 : BitVec 32 := Scalar.muli v165 c1_i32_160
  let v168 : BitVec 32 := Scalar.addi c0_i32_161 v167
  v168.toNat
def k0_dev36 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_165 : BitVec 32 := 5#32
  let v176 : BitVec 32 := Scalar.addi v2 c5_i32_165
  let c32_i32_166 : BitVec 32 := 32#32
  let v177 : BitVec 32 := Scalar.remsi v176 c32_i32_166
  let c1_i32_170 : BitVec 32 := 1#32
  let v179 : BitVec 32 := Scalar.muli v177 c1_i32_170
  let v180 : BitVec 32 := Scalar.addi c0_i32_171 v179
  v180.toNat
def k0_dev37 (d0 : Dev nD) : Nat :=
  let c0_i32_181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_175 : BitVec 32 := 6#32
  let v188 : BitVec 32 := Scalar.addi v2 c6_i32_175
  let c32_i32_176 : BitVec 32 := 32#32
  let v189 : BitVec 32 := Scalar.remsi v188 c32_i32_176
  let c1_i32_180 : BitVec 32 := 1#32
  let v191 : BitVec 32 := Scalar.muli v189 c1_i32_180
  let v192 : BitVec 32 := Scalar.addi c0_i32_181 v191
  v192.toNat
def k0_dev38 (d0 : Dev nD) : Nat :=
  let c0_i32_191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_185 : BitVec 32 := 7#32
  let v200 : BitVec 32 := Scalar.addi v2 c7_i32_185
  let c32_i32_186 : BitVec 32 := 32#32
  let v201 : BitVec 32 := Scalar.remsi v200 c32_i32_186
  let c1_i32_190 : BitVec 32 := 1#32
  let v203 : BitVec 32 := Scalar.muli v201 c1_i32_190
  let v204 : BitVec 32 := Scalar.addi c0_i32_191 v203
  v204.toNat
def k0_dev39 (d0 : Dev nD) : Nat :=
  let c0_i32_201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_195 : BitVec 32 := 8#32
  let v212 : BitVec 32 := Scalar.addi v2 c8_i32_195
  let c32_i32_196 : BitVec 32 := 32#32
  let v213 : BitVec 32 := Scalar.remsi v212 c32_i32_196
  let c1_i32_200 : BitVec 32 := 1#32
  let v215 : BitVec 32 := Scalar.muli v213 c1_i32_200
  let v216 : BitVec 32 := Scalar.addi c0_i32_201 v215
  v216.toNat
def k0_dev40 (d0 : Dev nD) : Nat :=
  let c0_i32_211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_205 : BitVec 32 := 9#32
  let v224 : BitVec 32 := Scalar.addi v2 c9_i32_205
  let c32_i32_206 : BitVec 32 := 32#32
  let v225 : BitVec 32 := Scalar.remsi v224 c32_i32_206
  let c1_i32_210 : BitVec 32 := 1#32
  let v227 : BitVec 32 := Scalar.muli v225 c1_i32_210
  let v228 : BitVec 32 := Scalar.addi c0_i32_211 v227
  v228.toNat
def k0_dev41 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_215 : BitVec 32 := 10#32
  let v236 : BitVec 32 := Scalar.addi v2 c10_i32_215
  let c32_i32_216 : BitVec 32 := 32#32
  let v237 : BitVec 32 := Scalar.remsi v236 c32_i32_216
  let c1_i32_220 : BitVec 32 := 1#32
  let v239 : BitVec 32 := Scalar.muli v237 c1_i32_220
  let v240 : BitVec 32 := Scalar.addi c0_i32_221 v239
  v240.toNat
def k0_dev42 (d0 : Dev nD) : Nat :=
  let c0_i32_231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_225 : BitVec 32 := 11#32
  let v248 : BitVec 32 := Scalar.addi v2 c11_i32_225
  let c32_i32_226 : BitVec 32 := 32#32
  let v249 : BitVec 32 := Scalar.remsi v248 c32_i32_226
  let c1_i32_230 : BitVec 32 := 1#32
  let v251 : BitVec 32 := Scalar.muli v249 c1_i32_230
  let v252 : BitVec 32 := Scalar.addi c0_i32_231 v251
  v252.toNat
def k0_dev43 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_235 : BitVec 32 := 12#32
  let v260 : BitVec 32 := Scalar.addi v2 c12_i32_235
  let c32_i32_236 : BitVec 32 := 32#32
  let v261 : BitVec 32 := Scalar.remsi v260 c32_i32_236
  let c1_i32_240 : BitVec 32 := 1#32
  let v263 : BitVec 32 := Scalar.muli v261 c1_i32_240
  let v264 : BitVec 32 := Scalar.addi c0_i32_241 v263
  v264.toNat
def k0_dev44 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_245 : BitVec 32 := 13#32
  let v272 : BitVec 32 := Scalar.addi v2 c13_i32_245
  let c32_i32_246 : BitVec 32 := 32#32
  let v273 : BitVec 32 := Scalar.remsi v272 c32_i32_246
  let c1_i32_250 : BitVec 32 := 1#32
  let v275 : BitVec 32 := Scalar.muli v273 c1_i32_250
  let v276 : BitVec 32 := Scalar.addi c0_i32_251 v275
  v276.toNat
def k0_dev45 (d0 : Dev nD) : Nat :=
  let c0_i32_261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_255 : BitVec 32 := 14#32
  let v284 : BitVec 32 := Scalar.addi v2 c14_i32_255
  let c32_i32_256 : BitVec 32 := 32#32
  let v285 : BitVec 32 := Scalar.remsi v284 c32_i32_256
  let c1_i32_260 : BitVec 32 := 1#32
  let v287 : BitVec 32 := Scalar.muli v285 c1_i32_260
  let v288 : BitVec 32 := Scalar.addi c0_i32_261 v287
  v288.toNat
def k0_dev46 (d0 : Dev nD) : Nat :=
  let c0_i32_271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_265 : BitVec 32 := 15#32
  let v296 : BitVec 32 := Scalar.addi v2 c15_i32_265
  let c32_i32_266 : BitVec 32 := 32#32
  let v297 : BitVec 32 := Scalar.remsi v296 c32_i32_266
  let c1_i32_270 : BitVec 32 := 1#32
  let v299 : BitVec 32 := Scalar.muli v297 c1_i32_270
  let v300 : BitVec 32 := Scalar.addi c0_i32_271 v299
  v300.toNat
def k0_dev47 (d0 : Dev nD) : Nat :=
  let c0_i32_281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_275 : BitVec 32 := 16#32
  let v308 : BitVec 32 := Scalar.addi v2 c16_i32_275
  let c32_i32_276 : BitVec 32 := 32#32
  let v309 : BitVec 32 := Scalar.remsi v308 c32_i32_276
  let c1_i32_280 : BitVec 32 := 1#32
  let v311 : BitVec 32 := Scalar.muli v309 c1_i32_280
  let v312 : BitVec 32 := Scalar.addi c0_i32_281 v311
  v312.toNat
def k0_dev48 (d0 : Dev nD) : Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_285 : BitVec 32 := 17#32
  let v320 : BitVec 32 := Scalar.addi v2 c17_i32_285
  let c32_i32_286 : BitVec 32 := 32#32
  let v321 : BitVec 32 := Scalar.remsi v320 c32_i32_286
  let c1_i32_290 : BitVec 32 := 1#32
  let v323 : BitVec 32 := Scalar.muli v321 c1_i32_290
  let v324 : BitVec 32 := Scalar.addi c0_i32_291 v323
  v324.toNat
def k0_dev49 (d0 : Dev nD) : Nat :=
  let c0_i32_301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_295 : BitVec 32 := 18#32
  let v332 : BitVec 32 := Scalar.addi v2 c18_i32_295
  let c32_i32_296 : BitVec 32 := 32#32
  let v333 : BitVec 32 := Scalar.remsi v332 c32_i32_296
  let c1_i32_300 : BitVec 32 := 1#32
  let v335 : BitVec 32 := Scalar.muli v333 c1_i32_300
  let v336 : BitVec 32 := Scalar.addi c0_i32_301 v335
  v336.toNat
def k0_dev50 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_305 : BitVec 32 := 19#32
  let v344 : BitVec 32 := Scalar.addi v2 c19_i32_305
  let c32_i32_306 : BitVec 32 := 32#32
  let v345 : BitVec 32 := Scalar.remsi v344 c32_i32_306
  let c1_i32_310 : BitVec 32 := 1#32
  let v347 : BitVec 32 := Scalar.muli v345 c1_i32_310
  let v348 : BitVec 32 := Scalar.addi c0_i32_311 v347
  v348.toNat
def k0_dev51 (d0 : Dev nD) : Nat :=
  let c0_i32_321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_315 : BitVec 32 := 20#32
  let v356 : BitVec 32 := Scalar.addi v2 c20_i32_315
  let c32_i32_316 : BitVec 32 := 32#32
  let v357 : BitVec 32 := Scalar.remsi v356 c32_i32_316
  let c1_i32_320 : BitVec 32 := 1#32
  let v359 : BitVec 32 := Scalar.muli v357 c1_i32_320
  let v360 : BitVec 32 := Scalar.addi c0_i32_321 v359
  v360.toNat
def k0_dev52 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_325 : BitVec 32 := 21#32
  let v368 : BitVec 32 := Scalar.addi v2 c21_i32_325
  let c32_i32_326 : BitVec 32 := 32#32
  let v369 : BitVec 32 := Scalar.remsi v368 c32_i32_326
  let c1_i32_330 : BitVec 32 := 1#32
  let v371 : BitVec 32 := Scalar.muli v369 c1_i32_330
  let v372 : BitVec 32 := Scalar.addi c0_i32_331 v371
  v372.toNat
def k0_dev53 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_335 : BitVec 32 := 22#32
  let v380 : BitVec 32 := Scalar.addi v2 c22_i32_335
  let c32_i32_336 : BitVec 32 := 32#32
  let v381 : BitVec 32 := Scalar.remsi v380 c32_i32_336
  let c1_i32_340 : BitVec 32 := 1#32
  let v383 : BitVec 32 := Scalar.muli v381 c1_i32_340
  let v384 : BitVec 32 := Scalar.addi c0_i32_341 v383
  v384.toNat
def k0_dev54 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_345 : BitVec 32 := 23#32
  let v392 : BitVec 32 := Scalar.addi v2 c23_i32_345
  let c32_i32_346 : BitVec 32 := 32#32
  let v393 : BitVec 32 := Scalar.remsi v392 c32_i32_346
  let c1_i32_350 : BitVec 32 := 1#32
  let v395 : BitVec 32 := Scalar.muli v393 c1_i32_350
  let v396 : BitVec 32 := Scalar.addi c0_i32_351 v395
  v396.toNat
def k0_dev55 (d0 : Dev nD) : Nat :=
  let c0_i32_361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_355 : BitVec 32 := 24#32
  let v404 : BitVec 32 := Scalar.addi v2 c24_i32_355
  let c32_i32_356 : BitVec 32 := 32#32
  let v405 : BitVec 32 := Scalar.remsi v404 c32_i32_356
  let c1_i32_360 : BitVec 32 := 1#32
  let v407 : BitVec 32 := Scalar.muli v405 c1_i32_360
  let v408 : BitVec 32 := Scalar.addi c0_i32_361 v407
  v408.toNat
def k0_dev56 (d0 : Dev nD) : Nat :=
  let c0_i32_371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_365 : BitVec 32 := 25#32
  let v416 : BitVec 32 := Scalar.addi v2 c25_i32_365
  let c32_i32_366 : BitVec 32 := 32#32
  let v417 : BitVec 32 := Scalar.remsi v416 c32_i32_366
  let c1_i32_370 : BitVec 32 := 1#32
  let v419 : BitVec 32 := Scalar.muli v417 c1_i32_370
  let v420 : BitVec 32 := Scalar.addi c0_i32_371 v419
  v420.toNat
def k0_dev57 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_375 : BitVec 32 := 26#32
  let v428 : BitVec 32 := Scalar.addi v2 c26_i32_375
  let c32_i32_376 : BitVec 32 := 32#32
  let v429 : BitVec 32 := Scalar.remsi v428 c32_i32_376
  let c1_i32_380 : BitVec 32 := 1#32
  let v431 : BitVec 32 := Scalar.muli v429 c1_i32_380
  let v432 : BitVec 32 := Scalar.addi c0_i32_381 v431
  v432.toNat
def k0_dev58 (d0 : Dev nD) : Nat :=
  let c0_i32_391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_385 : BitVec 32 := 27#32
  let v440 : BitVec 32 := Scalar.addi v2 c27_i32_385
  let c32_i32_386 : BitVec 32 := 32#32
  let v441 : BitVec 32 := Scalar.remsi v440 c32_i32_386
  let c1_i32_390 : BitVec 32 := 1#32
  let v443 : BitVec 32 := Scalar.muli v441 c1_i32_390
  let v444 : BitVec 32 := Scalar.addi c0_i32_391 v443
  v444.toNat
def k0_dev59 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_395 : BitVec 32 := 28#32
  let v452 : BitVec 32 := Scalar.addi v2 c28_i32_395
  let c32_i32_396 : BitVec 32 := 32#32
  let v453 : BitVec 32 := Scalar.remsi v452 c32_i32_396
  let c1_i32_400 : BitVec 32 := 1#32
  let v455 : BitVec 32 := Scalar.muli v453 c1_i32_400
  let v456 : BitVec 32 := Scalar.addi c0_i32_401 v455
  v456.toNat
def k0_dev60 (d0 : Dev nD) : Nat :=
  let c0_i32_411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_405 : BitVec 32 := 29#32
  let v464 : BitVec 32 := Scalar.addi v2 c29_i32_405
  let c32_i32_406 : BitVec 32 := 32#32
  let v465 : BitVec 32 := Scalar.remsi v464 c32_i32_406
  let c1_i32_410 : BitVec 32 := 1#32
  let v467 : BitVec 32 := Scalar.muli v465 c1_i32_410
  let v468 : BitVec 32 := Scalar.addi c0_i32_411 v467
  v468.toNat
def k0_dev61 (d0 : Dev nD) : Nat :=
  let c0_i32_421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_415 : BitVec 32 := 30#32
  let v476 : BitVec 32 := Scalar.addi v2 c30_i32_415
  let c32_i32_416 : BitVec 32 := 32#32
  let v477 : BitVec 32 := Scalar.remsi v476 c32_i32_416
  let c1_i32_420 : BitVec 32 := 1#32
  let v479 : BitVec 32 := Scalar.muli v477 c1_i32_420
  let v480 : BitVec 32 := Scalar.addi c0_i32_421 v479
  v480.toNat
def k0_dev62 (d0 : Dev nD) : Nat :=
  let c0_i32_431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_425 : BitVec 32 := 31#32
  let v488 : BitVec 32 := Scalar.addi v2 c31_i32_425
  let c32_i32_426 : BitVec 32 := 32#32
  let v489 : BitVec 32 := Scalar.remsi v488 c32_i32_426
  let c1_i32_430 : BitVec 32 := 1#32
  let v491 : BitVec 32 := Scalar.muli v489 c1_i32_430
  let v492 : BitVec 32 := Scalar.addi c0_i32_431 v491
  v492.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_435 : BitVec 32 := 32#32
  let v500 : BitVec 32 := Scalar.muli v2 c32_i32_435
  let v501 : Index := Scalar.indexCast v500
  let c0 : Index := 0#32
  ![v501.toNat, 0]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v504 : Index := Scalar.indexCast v2
  let c0_436 : Index := 0#32
  let c0_437 : Index := 0#32
  ![v504.toNat, 0, 0]
abbrev stage0_0 : Fin 1 → Memref sig .tc .vmem S1024x32 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== SiluIdeal.lean ====
abbrev S1024x1024 : Shape := ⟨2, ![1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Protocol.lean ====
/-
# The exchange protocol of the kernel

Every device holds 1024 rows of 32 columns; device `t` wants rows `32 t … 32 t + 31` of every device. Device `c`
therefore sends, for each offset `d = 1 … 31`, its rows `32 (c+d) …` to device `c + d` (indices of devices are added
in `Fin 32`, so modulo 32), where they land in slot `c` of the gathering buffer; its own block it copies into its own
slot `c` by a load and a store.

Who waits on what:

* **Barrier of device `e`** (one per device, 31 units in its only round). For each `d ≠ 0` device `e - d` adds one
  unit, and with the unit hands `e` the right to write slot `e` of ITS gathering buffer, at whatever it holds. After
  its wait for 31 units device `e` can write into all other devices.
* **Receive semaphore `d ≠ 0` of device `c`**: one landing, `N` units, from device `c - d`. It hands `c` its own slot
  `c - d`, now holding rows `32 c …` of device `c - d`.
* **Send semaphore `d ≠ 0` of device `c`**: one departure, `N` units, of `c`'s own copy to `c + d`. It hands back
  rows `32 (c+d) …` of `c`'s operand, unchanged.
* The send and the receive semaphore at `d = 0` are never touched: they have no duties at all.

Order: barrier units, the barrier wait, the copies, own block, receive waits, send waits. A device waits on its
barrier while it owes receive units only, and on receives and sends while it owes nothing; hence the levels: barriers
below receives, everything else at the bottom.

All slots are described by ONE contents, `gathered c`: entry `(j, r, k)` is entry `(32 c + r, k)` of device `j`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ValueLayout
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-! ## Ghost state: the pipeline's own, and the exchange's with duties named by the offset `d` -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Buffers and their blocks -/

abbrev xM : Memref sig .tc .vmem S1024x32 .bf16 := Memref.whole cc0_stg0_0
abbrev wM : Memref sig .tc .vmem S1024x1024 .bf16 := Memref.whole cc0_stg1_0
abbrev oM : Memref sig .tc .vmem S32x1024 .f32 := Memref.whole cc0_stg2_0
abbrev cM : Memref sig .tc .vmem S32x32x32 .bf16 := Memref.whole cc0_scratch0

/-- Where row block `j` of the operand starts, and slot `j` of the gathering buffer. -/
abbrev xOff (j : Fin 32) : Fin S1024x32.rank → ℕ := ![32 * j.val, 0]
abbrev cOff (j : Fin 32) : Fin S32x32x32.rank → ℕ := ![j.val, 0, 0]

theorem xOff_inb (j : Fin 32) : ∀ a, xOff j a + S32x32.size a ≤ S1024x32.size a := by revert j; decide
theorem cOff_inb (j : Fin 32) : ∀ a, cOff j a + S1x32x32.size a ≤ S32x32x32.size a := by revert j; decide

abbrev xRect (j : Fin 32) : Rect S1024x32 := Rect.unit (s := S1024x32) (xOff j) S32x32.size (xOff_inb j)
abbrev cRect (j : Fin 32) : Rect S32x32x32 := Rect.unit (s := S32x32x32) (cOff j) S1x32x32.size (cOff_inb j)

/-- Row block `j` of the operand, and slot `j` of the gathering buffer as a 32 × 32 array. -/
abbrev xRow (j : Fin 32) : Memref sig .tc .vmem S32x32 .bf16 := xM.slice (xRect j) (fun _ => rfl)
abbrev slot (j : Fin 32) : Memref sig .tc .vmem S32x32 .bf16 :=
  (cM.slice (cRect j) (fun _ => rfl)).squeeze S32x32 squeezes_S1x32x32_S32x32

/-- The elements of each. -/
abbrev xSet (j : Fin 32) : Finset S1024x32.Idx := (xRow j).view.set
abbrev cSet (j : Fin 32) : Finset S32x32x32.Idx := (slot j).view.set

theorem xRow_set (j : Fin 32) : xSet j = (xRect j).set := View.set_slice_whole _ _
theorem slot_set (j : Fin 32) : cSet j = (cRect j).set :=
  (View.set_reshape _ _).trans (View.set_slice_whole _ _)

theorem xRow_disjoint (j j' : Fin 32) (h : j ≠ j') : Disjoint (xSet j) (xSet j') := by
  rw [xRow_set, xRow_set]
  exact Ring.lead_disjoint (s := S1024x32) (0 : Fin 2) 32 xOff S32x32.size xOff_inb (fun _ => rfl) rfl j j' h
theorem slot_disjoint (j j' : Fin 32) (h : j ≠ j') : Disjoint (cSet j) (cSet j') := by
  rw [slot_set, slot_set]
  exact Ring.lead_disjoint (s := S32x32x32) (0 : Fin 3) 1 cOff S1x32x32.size cOff_inb
    (fun b => (Nat.one_mul b.val).symm) rfl j j' h
theorem xRow_cover : Finset.univ.biUnion xSet = Finset.univ := by
  rw [show xSet = fun j => (xRect j).set from funext xRow_set]
  exact Ring.lead_cover (s := S1024x32) (0 : Fin 2) 32 xOff S32x32.size xOff_inb (fun _ => rfl) (by decide) rfl (by decide) rfl
theorem slot_cover : Finset.univ.biUnion cSet = Finset.univ := by
  rw [show cSet = fun j => (cRect j).set from funext slot_set]
  exact Ring.lead_cover (s := S32x32x32) (0 : Fin 3) 1 cOff S1x32x32.size cOff_inb
    (fun b => (Nat.one_mul b.val).symm) (by decide) rfl (by decide) rfl

/-! ## Semaphores -/

abbrev barS : Sem sig := (SemArray.scalar (sig.barrier 0 rfl) : Sems sig S_).sem
theorem one_inb (d : Fin 32) : ∀ a, (![d.val] : Fin 1 → ℕ) a + S1.size a ≤ S32.size a := by revert d; decide
abbrev sendS (d : Fin 32) : DmaSem sig :=
  ((cc0_scratch1.slice (Rect.unit (s := S32) ![d.val] S1.size (one_inb d))).squeeze S_ squeezes_S1_S_).sem
abbrev recvS (d : Fin 32) : DmaSem sig :=
  ((cc0_scratch2.slice (Rect.unit (s := S32) ![d.val] S1.size (one_inb d))).squeeze S_ squeezes_S1_S_).sem

theorem sendS_val (d : Fin 32) : (sendS d).val = 3 + d.val := by revert d; decide
theorem recvS_val (d : Fin 32) : (recvS d).val = 35 + d.val := by revert d; decide

abbrev barCell (c : Dev nD) : GSem nD τ sig := ((c : Thread nD τ), .reg barS)
abbrev sendCell (c : Dev nD) (d : Fin 32) : GSem nD τ sig := ((c : Thread nD τ), .dma (sendS d))
abbrev recvCell (c : Dev nD) (d : Fin 32) : GSem nD τ sig := ((c : Thread nD τ), .dma (recvS d))

/-- The kernel's own semaphores (sends, then receives), and all it waits on (the barrier first). -/
abbrev osem : Fin 32 ⊕ Fin 32 → SemLoc sig := Sum.elim (fun d => .dma (sendS d)) (fun d => .dma (recvS d))
abbrev CK : Type := Unit ⊕ (Fin 32 ⊕ Fin 32)
abbrev csem : CK → SemLoc sig := Sum.elim (fun _ => .reg barS) osem
abbrev kcell (ck : Dev nD × CK) : GSem nD τ sig := ((ck.1 : Thread nD τ), csem ck.2)

abbrev N : ℕ := (slot 0).view.dmaCredit
theorem N_pos : 0 < N := View.dmaCredit_pos _ (by decide)
theorem slot_credit (j : Fin 32) : (slot j).view.dmaCredit = N := rfl
theorem xRow_credit (j : Fin 32) : (xRow j).view.dmaCredit = N := by decide +revert

/-! ## Contents -/

/-- The operand of device `c` as its window stages it, and the weights. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- Row `r` of row block `j`, as a row of the operand. -/
abbrev rowIn (j r : Fin 32) : Fin 1024 := ⟨32 * j.val + r.val, by omega⟩

/-- What device `c` has gathered at the end: slot `j` is row block `c` of device `j`'s operand. -/
def gathered (c : Dev nD) : (cc0_scratch0 : Ref sig .tc).ty.Contents (Elt F) :=
  fun i : S32x32x32.Idx => xstg m ρ (i (0 : Fin 3)) (ix2 (rowIn c (i (1 : Fin 3))) (i (2 : Fin 3)) : S1024x32.Idx)

omit [FloatOps F] in
theorem xRow_emb (j : Fin 32) (r k : Fin 32) :
    (xRow j).view.emb (ix2 r k : S32x32.Idx) = (ix2 (rowIn j r) k : S1024x32.Idx) := by
  funext a
  fin_cases a
  · exact Fin.ext (show 32 * j.val + 1 * r.val = 32 * j.val + r.val by omega)
  · exact Fin.ext (show 0 + 1 * k.val = k.val by omega)

omit [FloatOps F] in
theorem slot_emb (j : Fin 32) (r k : Fin 32) :
    (slot j).view.emb (ix2 r k : S32x32.Idx) = (ix3 j r k : S32x32x32.Idx) := by
  show (cRect j).emb (Shape.reshapeEquiv _ (ix2 r k : S32x32.Idx)) = _
  rw [reshapeEquiv_ix2_1ab]
  funext a
  fin_cases a
  · exact Fin.ext (show j.val + 1 * 0 = j.val by omega)
  · exact Fin.ext (show 0 + 1 * r.val = r.val by omega)
  · exact Fin.ext (show 0 + 1 * k.val = k.val by omega)

omit [FloatOps F] in
/-- Row block `e` of device `c`'s operand, landed in slot `c` of device `e`, is what `e` has to gather there. -/
theorem landed_eq (c e : Dev nD) (fd : (cc0_scratch0 : Ref sig .tc).ty.Contents (Elt F)) :
    ∀ i ∈ (slot c).view.set,
      (slot c).view.write (Elt F) fd ((xRow e).view.read (Elt F) (xstg m ρ c)) Finset.univ i = gathered m ρ e i := by
  intro i hi
  obtain ⟨y, -, rfl⟩ := Finset.mem_map.mp hi
  obtain ⟨r, k, rfl⟩ : ∃ r k : Fin 32, y = (ix2 r k : S32x32.Idx) :=
    ⟨y (0 : Fin 2), y (1 : Fin 2), by funext a; fin_cases a <;> rfl⟩
  rw [View.write_emb_of_mem _ _ (x := ix2 r k) (Finset.mem_univ _), View.read_apply, slot_emb, xRow_emb]
  rfl

/-! ## The pieces of memory that change hands -/

/-- Slot `j` of device `c`'s gathering buffer, at `f`; row block `j` of device `c`'s staged operand. -/
def slotPts (c : Dev nD) (j : Fin 32) (f : (cc0_scratch0 : Ref sig .tc).ty.Contents (Elt F)) : sProp 𝕄 :=
  (slot j).view.loc (c : Thread nD τ) ↦[(slot j).view.set]{fullShare} f
def rowPts (c : Dev nD) (j : Fin 32) : sProp 𝕄 :=
  (xRow j).view.loc (c : Thread nD τ) ↦[(xRow j).view.set]{fullShare} xstg m ρ c

omit [FloatOps F] in
instance slotPts_storable (c : Dev nD) (j f) : BI.Storable (upEmb : UEmb _ 𝕄) (slotPts (F := F) c j f) := by
  unfold slotPts; infer_instance
omit [FloatOps F] in
instance rowPts_storable (c : Dev nD) (j) : BI.Storable (upEmb : UEmb _ 𝕄) (rowPts (F := F) m ρ c j) := by
  unfold rowPts; infer_instance

omit [FloatOps F] in
/-- The gathering buffer is its 32 slots, the staged operand its 32 row blocks. -/
theorem slots_eq (c : Dev nD) (f : (cc0_scratch0 : Ref sig .tc).ty.Contents (Elt F)) :
    (((c : Thread nD τ).loc cc0_scratch0) ↦{fullShare} f : sProp 𝕄) = bigSep Finset.univ fun j => slotPts c j f :=
by
  rw [Ring.pointsTo_blocks (ℓ := (c : Thread nD τ).loc cc0_scratch0) cSet slot_disjoint slot_cover]
  exact bigSep_congr fun j _ => by unfold slotPts; rfl
omit [FloatOps F] in
theorem rows_eq (c : Dev nD) :
    (((c : Thread nD τ).loc cc0_stg0_0) ↦{fullShare} xstg m ρ c : sProp 𝕄) = bigSep Finset.univ fun j => rowPts m ρ c j :=
by
  rw [Ring.pointsTo_blocks (ℓ := (c : Thread nD τ).loc cc0_stg0_0) xSet xRow_disjoint xRow_cover]
  exact bigSep_congr fun j _ => by unfold rowPts; rfl

/-! ## The schedule -/

/-- With its barrier unit for device `e`, device `e - d` hands over its slot `e`. -/
def barPay (e : Dev nD) (d : Fin 32) : sProp 𝕄 := iprop(∃ f, slotPts (F := F) (e - d) e f)

/-- The offsets at which something is exchanged. -/
abbrev offs : Finset (Fin 32) := Finset.univ.erase 0

/-- The offset a send or a receive semaphore serves, and whether it is an exchanged one. -/
def ixOf (q : DmaSem sig) : Fin 32 := if q.val < 35 then Fin.ofNat 32 (q.val - 3) else Fin.ofNat 32 (q.val - 35)
def live (q : DmaSem sig) : Prop := 3 ≤ q.val ∧ ixOf q ≠ 0
instance (q : DmaSem sig) : Decidable (live q) := inferInstanceAs (Decidable (_ ∧ _))

theorem ixOf_send (d : Fin 32) : ixOf (sendS d) = d := by revert d; decide
theorem ixOf_recv (d : Fin 32) : ixOf (recvS d) = d := by revert d; decide
theorem live_send (d : Fin 32) : live (sendS d) ↔ d ≠ 0 := by revert d; decide
theorem live_recv (d : Fin 32) : live (recvS d) ↔ d ≠ 0 := by revert d; decide
theorem send_lt (d : Fin 32) : (sendS d).val < 35 := by revert d; decide
theorem recv_ge (d : Fin 32) : ¬ (recvS d).val < 35 := by revert d; decide

/-- One round. A barrier cell has a duty of one unit for every exchanged offset; a send or receive cell of an exchanged
    offset the one duty `0` of `N` units. -/
def xRd : Rounds.Schedule (GSem nD τ sig) (Fin 32) 𝕄 where
  duties g r := match g.2 with
    | .reg _ => if r = 0 ∧ g.1.2 = .tc then offs else ∅
    | .dma q => if r = 0 ∧ g.1.2 = .tc ∧ live q then {0} else ∅
  unitless _ := False
  amount g _ _ := match g.2 with | .reg _ => 1 | .dma _ => N
  payload g _ d := match g.2 with
    | .reg _ => barPay g.1.1 d
    | .dma q => if q.val < 35 then rowPts m ρ g.1.1 (g.1.1 + ixOf q)
        else slotPts g.1.1 (g.1.1 - ixOf q) (gathered m ρ g.1.1)
  amount_pos g _ _ _ := by
    rcases g with ⟨c, _ | _⟩
    · exact Nat.one_pos
    · exact N_pos

instance xRd_payload_storable (g : GSem nD τ sig) (r : ℕ) (d : Fin 32) :
    BI.Storable (upEmb : UEmb _ 𝕄) ((xRd (F := F) m ρ).payload g r d) := by
  rcases g with ⟨c, s | q⟩
  · show BI.Storable upEmb (barPay (F := F) c.1 d); unfold barPay; infer_instance
  · show BI.Storable upEmb (if q.val < 35 then rowPts m ρ c.1 (c.1 + ixOf q) else slotPts c.1 (c.1 - ixOf q) (gathered m ρ c.1))
    split <;> infer_instance

theorem neg_neg32 (d : Fin 32) : - -d = d := by revert d; decide
theorem sub_neg32 (c d : Fin 32) : c - -d = c + d := by revert c d; decide
theorem add_sub32 (c d : Fin 32) : c + d - d = c := by revert c d; decide
theorem sub_add32 (c d : Fin 32) : c - d + d = c := by revert c d; decide
theorem sub_inj32 (c : Fin 32) : Function.Injective fun d => c - d := by revert c; decide
theorem add_inj32 (c : Fin 32) : Function.Injective fun d => c + d := by revert c; decide
/-- Offset `d` seen from the other end. -/
def mirror : Fin 32 ≃ Fin 32 := ⟨fun d => -d, fun d => -d, neg_neg32, neg_neg32⟩

section Sched
variable (c : Dev nD) (d : Fin 32)

omit [FloatOps F] in
theorem duties_bar : (xRd (F := F) m ρ).duties (barCell c) 0 = offs := by
  dsimp only [xRd]; exact if_pos ⟨rfl, rfl⟩
omit [FloatOps F] in
theorem duties_send (h : d ≠ 0) : (xRd (F := F) m ρ).duties (sendCell c d) 0 = {0} := if_pos ⟨rfl, rfl, (live_send d).mpr h⟩
omit [FloatOps F] in
theorem duties_recv (h : d ≠ 0) : (xRd (F := F) m ρ).duties (recvCell c d) 0 = {0} := if_pos ⟨rfl, rfl, (live_recv d).mpr h⟩
omit [FloatOps F] in
theorem duties_later (g : GSem nD τ sig) : ∀ r, 1 ≤ r → (xRd (F := F) m ρ).duties g r = ∅ := fun r hr => by
  rcases g with ⟨c, _ | _⟩
  · exact if_neg fun h => by omega
  · exact if_neg fun h => by omega
omit [FloatOps F] in
/-- The semaphores at offset `0` never have anything to do. -/
theorem duties_send_zero : ∀ r, 0 ≤ r → (xRd (F := F) m ρ).duties (sendCell c 0) r = ∅ :=
  fun r _ => if_neg fun h => (live_send 0).mp h.2.2 rfl
omit [FloatOps F] in
theorem duties_recv_zero : ∀ r, 0 ≤ r → (xRd (F := F) m ρ).duties (recvCell c 0) r = ∅ :=
  fun r _ => if_neg fun h => (live_recv 0).mp h.2.2 rfl

omit [FloatOps F] in
theorem amount_send (k : Fin 32) : (xRd (F := F) m ρ).amount (sendCell c d) 0 k = N := rfl
omit [FloatOps F] in
theorem amount_recv (k : Fin 32) : (xRd (F := F) m ρ).amount (recvCell c d) 0 k = N := rfl
omit [FloatOps F] in
theorem payload_bar : (xRd (F := F) m ρ).payload (barCell c) 0 d = barPay c d := rfl
omit [FloatOps F] in
theorem payload_send (k : Fin 32) : (xRd (F := F) m ρ).payload (sendCell c d) 0 k = rowPts m ρ c (c + d) := by
  show (if (sendS d).val < 35 then rowPts m ρ c (c + ixOf (sendS d)) else _) = _
  rw [if_pos (send_lt d), ixOf_send]
omit [FloatOps F] in
theorem payload_recv (k : Fin 32) :
    (xRd (F := F) m ρ).payload (recvCell c d) 0 k = slotPts c (c - d) (gathered m ρ c) := by
  show (if (recvS d).val < 35 then _ else slotPts c (c - ixOf (recvS d)) (gathered m ρ c)) = _
  rw [if_neg (recv_ge d), ixOf_recv]

omit [FloatOps F] in
theorem expect_bar : (xRd (F := F) m ρ).expect (barCell c) 0 = 31 := by
  unfold Schedule.expect Schedule.amountOf
  rw [duties_bar]; exact (Finset.sum_const 1).trans (by decide)
omit [FloatOps F] in
theorem expect_send (h : d ≠ 0) : (xRd (F := F) m ρ).expect (sendCell c d) 0 = N := by
  unfold Schedule.expect Schedule.amountOf
  rw [duties_send m ρ c d h]; exact Finset.sum_singleton _ _
omit [FloatOps F] in
theorem expect_recv (h : d ≠ 0) : (xRd (F := F) m ρ).expect (recvCell c d) 0 = N := by
  unfold Schedule.expect Schedule.amountOf
  rw [duties_recv m ρ c d h]; exact Finset.sum_singleton _ _

omit [FloatOps F] in
theorem rest_send (h : d ≠ 0) :
    bigSep ((xRd (F := F) m ρ).duties (sendCell c d) 0 \ ∅) (fun k => (xRd (F := F) m ρ).payload (sendCell c d) 0 k)
      = rowPts m ρ c (c + d) := by
  rw [Finset.sdiff_empty, duties_send m ρ c d h, bigSep_singleton, payload_send]
omit [FloatOps F] in
theorem rest_recv (h : d ≠ 0) :
    bigSep ((xRd (F := F) m ρ).duties (recvCell c d) 0 \ ∅) (fun k => (xRd (F := F) m ρ).payload (recvCell c d) 0 k)
      = slotPts c (c - d) (gathered m ρ c) := by
  rw [Finset.sdiff_empty, duties_recv m ρ c d h, bigSep_singleton, payload_recv]

omit [FloatOps F] in
/-- What the barrier's units bring device `c`, told by the offset `d` the slot is to be filled at: slot `c` of every
    other device `c + d`. -/
theorem rest_bar :
    bigSep ((xRd (F := F) m ρ).duties (barCell c) 0 \ ∅) (fun k => (xRd (F := F) m ρ).payload (barCell c) 0 k)
      = bigSep offs fun d => iprop(∃ f, slotPts (F := F) (c + d) c f) := by
  rw [Finset.sdiff_empty, duties_bar,
    show offs = offs.map (mirror).toEmbedding from by decide, bigSep_map,
    show offs.map (mirror).toEmbedding = offs from by decide]
  refine bigSep_congr fun d _ => ?_
  show barPay c (-d) = _
  unfold barPay; rw [sub_neg32]

end Sched

/-! ## Dues and levels -/

/-- The offsets still ahead once those below `n` are done, and those done. -/
abbrev up (n : ℕ) : Finset (Fin 32) := Finset.univ.filter fun d => n ≤ d.val
abbrev dn (n : ℕ) : Finset (Fin 32) := Finset.univ.filter fun d => 1 ≤ d.val ∧ d.val < n

theorem up_step (n : ℕ) (h : n < 32) : up n = insert ⟨n, h⟩ (up (n + 1)) := by
  ext d; simp only [Finset.mem_insert, Finset.mem_filter, Finset.mem_univ, true_and, Fin.ext_iff]; omega
theorem up_not_mem (n : ℕ) (h : n < 32) : (⟨n, h⟩ : Fin 32) ∉ up (n + 1) := by
  simp only [Finset.mem_filter, Finset.mem_univ, true_and]; omega
theorem dn_step (n : ℕ) (h : n < 32) (h1 : 1 ≤ n) : dn (n + 1) = insert ⟨n, h⟩ (dn n) := by
  ext d; simp only [Finset.mem_insert, Finset.mem_filter, Finset.mem_univ, true_and, Fin.ext_iff]; omega
theorem dn_not_mem (n : ℕ) (h : n < 32) : (⟨n, h⟩ : Fin 32) ∉ dn n := by
  simp only [Finset.mem_filter, Finset.mem_univ, true_and]; omega
theorem up_one : up 1 = offs := by decide
theorem dn_last : dn 32 = offs := by decide
theorem up_last : up 32 = ∅ := by decide
theorem dn_one : dn 1 = ∅ := by decide

/-- Barrier units, and receive units, device `c` still owes once the offsets below `n` are done. -/
def owedBar (c : Dev nD) (n : ℕ) : CellTallies nD τ sig Unit := ∑ d ∈ up n, tallyAt (barCell (c + d)) () 1
def owedRecv (c : Dev nD) (n : ℕ) : CellTallies nD τ sig Unit := ∑ d ∈ up n, tallyAt (recvCell (c + d) d) () N

theorem owedBar_step (c : Dev nD) (n : ℕ) (h : n < 32) :
    owedBar c n = owedBar c (n + 1) + tallyAt (barCell (c + ⟨n, h⟩)) () 1 := by
  unfold owedBar; rw [up_step n h, Finset.sum_insert (up_not_mem n h), add_comm]
theorem owedRecv_step (c : Dev nD) (n : ℕ) (h : n < 32) :
    owedRecv c n = owedRecv c (n + 1) + tallyAt (recvCell (c + ⟨n, h⟩) ⟨n, h⟩) () N := by
  unfold owedRecv; rw [up_step n h, Finset.sum_insert (up_not_mem n h), add_comm]
theorem owedBar_last (c : Dev nD) : owedBar c 32 = 0 := by unfold owedBar; rw [up_last, Finset.sum_empty]
theorem owedRecv_last (c : Dev nD) : owedRecv c 32 = 0 := by unfold owedRecv; rw [up_last, Finset.sum_empty]

/-- What device `c` owes when the kernel starts. -/
def O₀ (c : Dev nD) : CellTallies nD τ sig Unit := owedRecv c 1 + owedBar c 1

def L (g : GSem nD τ sig) : Finset Unit := if g.1.2 = .tc then {()} else ∅
/-- Barriers at 1, receives at 2, everything else at 0. -/
def lv (g : GSem nD τ sig) (_ : Unit) : ℕ := match g.2 with
  | .reg _ => 1
  | .dma q => if q.val < 35 then 0 else 2

theorem L_of_ne (g : GSem nD τ sig) (h : g.1.2 ≠ .tc) : L g = ∅ := if_neg h
theorem L_tc (c : Dev nD) (sm : SemLoc sig) : L ((c : Thread nD τ), sm) = {()} := if_pos rfl

theorem sum_pos_mem {S : Finset (Fin 32)} {T : Fin 32 → CellTallies nD τ sig Unit} {g : GSem nD τ sig} {u : Unit}
    (h : 0 < (∑ d ∈ S, T d) g u) : ∃ d ∈ S, 0 < T d g u := by
  rw [Finset.sum_apply, Finsupp.finset_sum_apply] at h
  by_contra hn
  exact absurd h (by rw [Finset.sum_eq_zero fun d hd => Nat.eq_zero_of_not_pos fun hp => hn ⟨d, hd, hp⟩]; exact Nat.lt_irrefl 0)

theorem owedRecv_pos {c : Dev nD} {n : ℕ} {g : GSem nD τ sig} {u : Unit} (h : 0 < owedRecv c n g u) :
    ∃ e d, g = recvCell e d := by
  obtain ⟨d, -, hd⟩ := sum_pos_mem h
  rw [tallyAt_apply] at hd
  by_contra hn
  rw [if_neg fun h' => hn ⟨_, _, h'.1⟩] at hd
  exact Nat.lt_irrefl 0 hd
theorem owedBar_pos {c : Dev nD} {n : ℕ} {g : GSem nD τ sig} {u : Unit} (h : 0 < owedBar c n g u) :
    ∃ e, g = barCell e := by
  obtain ⟨d, -, hd⟩ := sum_pos_mem h
  rw [tallyAt_apply] at hd
  by_contra hn
  rw [if_neg fun h' => hn ⟨_, h'.1⟩] at hd
  exact Nat.lt_irrefl 0 hd

theorem lv_recv (e : Dev nD) (d : Fin 32) : lv (recvCell e d) () = 2 := if_neg (recv_ge d)

omit [FloatOps F] in
/-- A semaphore of the pipeline may be waited on whatever of this is owed. -/
theorem mayWait_stage (c : Dev nD) (q : DmaSem sig) (hq : q.val < 35) (O : CellTallies nD τ sig Unit) (hO : O = O₀ c ∨ O = 0) :
    (levAts L lv : sProp 𝕄) ⊢ MayWait (c : Thread nD τ) (.dma q) () O := by
  rcases hO with rfl | rfl
  · have hcell : ∀ g u, 0 < O₀ c g u → (∃ e d, g = recvCell e d) ∨ ∃ e, g = barCell e := fun g u hg => by
      unfold O₀ at hg
      rw [Pi.add_apply, Finsupp.add_apply] at hg
      rcases Nat.eq_zero_or_pos (owedRecv c 1 g u) with h0 | h0
      · exact Or.inr (owedBar_pos (by rwa [h0, Nat.zero_add] at hg))
      · exact Or.inl (owedRecv_pos h0)
    refine MayOwe.of_cut (L := L) (lev := lv) 0 (fun p hp => by rw [Finset.mem_singleton.mp hp, L_tc]; exact Finset.mem_singleton_self _)
      (fun g u hg => by rcases hcell g u hg with ⟨e, d, rfl⟩ | ⟨e, rfl⟩ <;> exact Finset.mem_singleton_self _)
      (fun p hp => by rw [Finset.mem_singleton.mp hp]; exact (if_pos hq).le)
      (fun g u hg => by
        rcases hcell g u hg with ⟨e, d, rfl⟩ | ⟨e, rfl⟩
        · rw [lv_recv]; decide
        · exact Nat.one_pos)
  · rw [MayWait_zero]; iintro -; iempintro

omit [FloatOps F] in
/-- At its barrier wait a device owes receive units only. -/
theorem mayWait_bar (c : Dev nD) (n : ℕ) : (levAts L lv : sProp 𝕄) ⊢ MayWait (c : Thread nD τ) (.reg barS) () (owedRecv c n) :=
  MayOwe.of_cut (L := L) (lev := lv) 1 (fun p hp => by rw [Finset.mem_singleton.mp hp, L_tc]; exact Finset.mem_singleton_self _)
    (fun g u hg => by obtain ⟨e, d, rfl⟩ := owedRecv_pos hg; exact Finset.mem_singleton_self _)
    (fun p hp => by rw [Finset.mem_singleton.mp hp]; exact Nat.le_refl 1)
    (fun g u hg => by obtain ⟨e, d, rfl⟩ := owedRecv_pos hg; rw [lv_recv]; decide)

end Cert.Exchange

end
-- ==== Proof.Steps.lean ====
/-
# One step of each phase, for any offset

Each lemma runs ONE operation of the kernel at an arbitrary offset `n`: what is still to be done at the offsets from
`n` on (`up n`) and what has been done at the offsets before it (`dn n`) becomes the same at `n + 1`. The kernel
runs each of them 31 times. `R` is whatever else is held meanwhile.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The invariants of all cells of all devices, that each is at its only round, and the levels: known to everybody. -/
def records (K : Dev nD × CK → ℕ) : sProp 𝕄 :=
  iprop((bigSep Finset.univ fun ck : Dev nD × CK => cellInv ER (xRd m ρ) (K ck) (kcell ck))
    ∗ (bigSep Finset.univ fun ck : Dev nD × CK => reached ER (kcell ck) 0) ∗ levAts L lv)

instance records_persistent (K : Dev nD × CK → ℕ) : BI.Persistent (records m ρ K) := by unfold records; infer_instance

omit [FloatOps F] in
theorem inv_at (K : Dev nD × CK → ℕ) (ck : Dev nD × CK) : records m ρ K ⊢ cellInv ER (xRd m ρ) (K ck) (kcell ck) := by
  unfold records
  rw [bigSep_univ_at _ ck]
  iintro ⟨⟨H, -⟩, -, -⟩
  iexact H
omit [FloatOps F] in
theorem reached_at (K : Dev nD × CK → ℕ) (ck : Dev nD × CK) : records m ρ K ⊢ reached ER (kcell ck) 0 := by
  unfold records
  rw [bigSep_univ_at (fun ck => reached ER (kcell ck) 0) ck]
  iintro ⟨-, ⟨H, -⟩, -⟩
  iexact H

omit [FloatOps F] in
/-- A device may wait on its barrier while it owes its receive units. -/
theorem bar_ok (K : Dev nD × CK → ℕ) (c : Dev nD) :
    records m ρ K ⊢ MayWait (c : Thread nD τ) (.reg barS) () (owedRecv c 1) := by
  unfold records
  iintro ⟨-, -, #HL⟩
  iapply (mayWait_bar (F := F) c 1); iexact HL

/-- Device `c` owes `O`, whatever it has waited on. -/
def owing (c : Dev nD) (O : CellTallies nD τ sig Unit) : sProp 𝕄 := iprop(∃ W, owes (c : Thread nD τ) O W)

/-! ## What each phase holds per offset -/

/-- For the barrier unit to `c + d`: the right to pay it, and the slot handed over with it. -/
def barGift (c : Dev nD) (d : Fin 32) : sProp 𝕄 :=
  iprop(dutyTok ER (barCell (c + d)) 0 d ∗ ∃ f, slotPts (F := F) c (c + d) f)
/-- For the copy to `c + d`: the slot it fills, the rows it reads, the two duties it pays. -/
def sendToks (c : Dev nD) (d : Fin 32) : sProp 𝕄 :=
  iprop(rowPts m ρ c (c + d) ∗ dutyTok ER (sendCell c d) 0 0 ∗ dutyTok ER (recvCell (c + d) d) 0 0)
def sendGift (c : Dev nD) (d : Fin 32) : sProp 𝕄 :=
  iprop((∃ f, slotPts (F := F) (c + d) c f) ∗ sendToks m ρ c d)
def sendCred (c : Dev nD) (d : Fin 32) : sProp 𝕄 := cred (tallyAt (sendCell c d) () N)
/-- Before and after the wait for the block from `c - d`; -/
def recvDue (c : Dev nD) (d : Fin 32) : sProp 𝕄 :=
  iprop(cred (tallyAt (recvCell c d) () N) ∗ atPos ER (recvCell c d) 0 ∅ 0)
def recvDone (c : Dev nD) (d : Fin 32) : sProp 𝕄 :=
  iprop(semVal (recvCell c d) 0 ∗ slotPts c (c - d) (gathered m ρ c))
/-- and for the departure of the copy to `c + d`. -/
def sendDue (c : Dev nD) (d : Fin 32) : sProp 𝕄 := iprop(sendCred c d ∗ atPos ER (sendCell c d) 0 ∅ 0)
def sendDone (c : Dev nD) (d : Fin 32) : sProp 𝕄 := iprop(semVal (sendCell c d) 0 ∗ rowPts m ρ c (c + d))

/-- What the phase in the middle works on: the own row block and slot, the receive and send positions; -/
def midPre (c : Dev nD) : sProp 𝕄 :=
  iprop(rowPts m ρ c c ∗ (∃ f, slotPts c c f) ∗ bigSep (up 1) (recvDue (F := F) c)
    ∗ bigSep (up 1) fun d => atPos ER (sendCell c d) 0 ∅ 0)
/-- with the barrier done with; -/
def midIn (c : Dev nD) : sProp 𝕄 := iprop(semVal (barCell c) 0 ∗ midPre m ρ c)
/-- and what it leaves. -/
def midOut (c : Dev nD) : sProp 𝕄 :=
  iprop(semVal (barCell c) 0 ∗ rowPts m ρ c c ∗ slotPts c c (gathered m ρ c) ∗ bigSep (up 1) (sendDue (F := F) c))

omit [FloatOps F] in
theorem up_split (n : ℕ) (h : n < 32) (Φ : Fin 32 → sProp 𝕄) :
    bigSep (up n) Φ = iprop(Φ ⟨n, h⟩ ∗ bigSep (up (n + 1)) Φ) := by
  rw [up_step n h, bigSep_insert (up_not_mem n h)]; rfl
omit [FloatOps F] in
theorem dn_join (n : ℕ) (h : n < 32) (h1 : 1 ≤ n) (Φ : Fin 32 → sProp 𝕄) :
    bigSep (dn (n + 1)) Φ = iprop(Φ ⟨n, h⟩ ∗ bigSep (dn n) Φ) := by
  rw [dn_step n h h1, bigSep_insert (dn_not_mem n h)]; rfl

theorem off_ne_zero (n : ℕ) (h : n < 32) (h1 : 1 ≤ n) : (⟨n, h⟩ : Fin 32) ≠ 0 := fun e => by
  have := congrArg Fin.val e; simp only [Fin.val_zero] at this; omega

section Steps

variable (K : Dev nD × CK → ℕ) (c : Dev nD) {α : Type}
  {k : PUnit → Prog (TpuEff nD τ sig (Elt F) Λ₀ .tc) α}

/-- A barrier unit to `c + n`. -/
theorem step_signal (n : ℕ) {e : ℕ} {he : e < nD} (hn : n < 32) (h1 : 1 ≤ n) (hd : e = (c.val + n) % 32)
    {Q : α → sProp 𝕄} {R : sProp 𝕄}
    (h : iprop(records m ρ K ∗ owing c (owedRecv c 1 + owedBar c (n + 1)) ∗ bigSep (up (n + 1)) (barGift c) ∗ R)
      ⊢ wp frame (wpE (defs₀ (F := F)) 𝒱₀ (c : Thread nD τ) none) Set.univ (k ⟨⟩) Q) :
    iprop(records m ρ K ∗ owing c (owedRecv c 1 + owedBar c n) ∗ bigSep (up n) (barGift c) ∗ R)
      ⊢ wp frame (wpE (defs₀ (F := F)) 𝒱₀ (c : Thread nD τ) none) Set.univ
          (.op (.semSignal ((⟨e, he⟩ : Dev nD), Proc.tc) barS (1#32).toInt) k) Q := by
  generalize hg : (⟨e, he⟩ : Dev nD) = g at *
  obtain rfl : g = c + ⟨n, hn⟩ := hg.symm.trans (Fin.ext hd)
  clear hg
  rw [up_split n hn, owedBar_step c n hn, ← add_assoc]
  unfold owing barGift
  iintro ⟨#HR, ⟨%W, HO⟩, ⟨⟨Ht, Hs⟩, Hup⟩, HF⟩
  iapply (Rounds.wp_signal 𝒱₀ ER (xRd m ρ) (c : Thread nD τ) none (dst := ((c + ⟨n, hn⟩ : Dev nD) : Thread nD τ))
      (κ := K (c + ⟨n, hn⟩, Sum.inl ())) (d := ⟨n, hn⟩)
      (by rw [duties_bar]; exact Finset.mem_erase.mpr ⟨off_ne_zero n hn h1, Finset.mem_univ _⟩) rfl ()
      (owedRecv c 1 + owedBar c (n + 1)) rfl) $$ [HO Ht Hs]
  · isplitr; · iapply (inv_at m ρ K (c + ⟨n, hn⟩, Sum.inl ())); iexact HR
    isplitl [HO]; · iexact HO
    isplitl [Ht]; · iexact Ht
    isplitl [Hs]
    · rw [payload_bar]; unfold barPay; rw [add_sub32]; iexact Hs
    iapply (reached_at m ρ K (c + ⟨n, hn⟩, Sum.inl ())); iexact HR
  iintro HO
  iapply h
  unfold owing barGift
  isplitr; · iexact HR
  isplitl [HO]; · iexists W; iexact HO
  isplitl [Hup]; · iexact Hup
  iexact HF

/-- The barrier wait: all other devices' slots `c` come with it, and the barrier is done with. -/
theorem step_barrier
    {Q : α → sProp 𝕄} {R : sProp 𝕄}
    (h : iprop(records m ρ K ∗ owing c (owedRecv c 1) ∗ bigSep (up 1) (sendGift m ρ c)
        ∗ bigSep (dn 1) (sendCred c) ∗ midIn m ρ c ∗ R)
      ⊢ wp frame (wpE (defs₀ (F := F)) 𝒱₀ (c : Thread nD τ) none) Set.univ (k ⟨⟩) Q) :
    iprop(records m ρ K ∗ owing c (owedRecv c 1 + owedBar c 32) ∗ bigSep (up 32) (barGift c)
        ∗ (cred (tallyAt (barCell c) () 31) ∗ atPos ER (barCell c) 0 ∅ 0 ∗ bigSep (up 1) (sendToks m ρ c) ∗ midPre m ρ c) ∗ R)
      ⊢ wp frame (wpE (defs₀ (F := F)) 𝒱₀ (c : Thread nD τ) none) Set.univ
          (.op (.semWait barS (31#32).toInt) k) Q := by
  rw [owedBar_last, add_zero]
  unfold owing
  iintro ⟨#HR, ⟨%W, HO⟩, -, ⟨Hc, Hat, Hs, Hm⟩, HF⟩
  iapply (Rounds.wp_wait_rest_token 𝒱₀ ER (xRd m ρ) (c : Thread nD τ) none (κ := K (c, Sum.inl ()))
      (wpE_semWait_eq 𝒱₀ (c : Thread nD τ) none Set.univ) (Set.mem_univ _) () (O := owedRecv c 1) (W := W) (R := 0) (m := 0) (T := ∅)
      (by rw [expect_bar]; rfl)) $$ [Hc HO Hat]
  · isplitr; · iapply (inv_at m ρ K (c, Sum.inl ())); iexact HR
    isplitl [Hc]; · iexact Hc
    isplitl [HO]; · iexact HO
    isplitr; · iapply (bar_ok m ρ K c); iexact HR
    iexact Hat
  iintro ⟨HO, Hat, -, Hpay⟩
  ihave Hp := (Entails.of_eq (rest_bar m ρ c)) $$ Hpay
  imod (Rounds.cell_close ER (xRd m ρ) (Set.mem_univ (K (c, Sum.inl ()))) (fun h => h) (R := 0 + 1) (duties_later m ρ (barCell c))) $$ [Hat] with Hz
  · isplitr; · iapply (inv_at m ρ K (c, Sum.inl ())); iexact HR
    iexact Hat
  iapply h
  unfold owing sendGift midIn
  isplitr; · iexact HR
  isplitl [HO]; · iexists _; iexact HO
  isplitl [Hp Hs]
  · rw [bigSep_sep', up_one]
    isplitl [Hp] <;> iassumption
  isplitr; · rw [dn_one, bigSep_empty]; iempintro
  isplitl [Hz Hm]; · isplitl [Hz] <;> iassumption
  iexact HF

/-- The library's rule for a copy that both its ends' cells record, at this exchange's cells. -/
theorem send_rule (d : Fin 32) (hd : d ≠ 0) (e : Dev nD) (he : c + d = e)
    {hsc : (slot c : Memref sig (Dev.tc e : Thread nD τ).2.kind .vmem S32x32 .bf16).view.ref.isScScratch = false}
    {hsrc : (xRow e : Memref sig .tc .vmem S32x32 .bf16).view.WordExact}
    {hdst : (slot c : Memref sig .tc .vmem S32x32 .bf16).view.WordExact}
    {hsem : DmaTarget.Typed .vmem (.dma (recvS d))
      (.remote (Dev.tc e : Thread nD τ) (slot c : Memref sig .tc .vmem S32x32 .bf16) (.dma (sendS d)) hsc)}
    {Q : α → sProp 𝕄}
    (O : CellTallies nD τ sig Unit) (W : Waits sig Unit)
    (fd : Buf (Elt F) ((slot c : Memref sig .tc .vmem S32x32 .bf16).view.loc (e : Thread nD τ))) :
    iprop(cellInv ER (xRd m ρ) (K (c, Sum.inr (Sum.inl d))) (sendCell c d)
        ∗ cellInv ER (xRd m ρ) (K (e, Sum.inr (Sum.inr d))) (recvCell e d)
        ∗ rowPts m ρ c e ∗ slotPts e c fd ∗ owes (c : Thread nD τ) (O + tallyAt (recvCell e d) () N) W
        ∗ dutyTok ER (sendCell c d) 0 0 ∗ reached ER (sendCell c d) 0
        ∗ dutyTok ER (recvCell e d) 0 0 ∗ reached ER (recvCell e d) 0)
      ⊢ iprop(((cred (tallyAt (sendCell c d) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (xRow e) (.remote (Dev.tc e : Thread nD τ) (slot c) (.dma (sendS d)) hsc)
              (.dma (recvS d)) hsrc hdst hsem) k) Q) := by
  have hp2 : (xRd m ρ).payload (recvCell e d) 0 0 = slotPts e c (gathered m ρ e) := by
    rw [payload_recv, ← he, add_sub32]
  have hp1 : (xRd m ρ).payload (sendCell c d) 0 0 = rowPts m ρ c e := by rw [payload_send, he]
  unfold slotPts rowPts at *
  exact Rounds.wp_send_pointsTo 𝒱₀ ER (xRd m ρ) (c : Thread nD τ) none
      (κ₁ := K (c, Sum.inr (Sum.inl d))) (κ₂ := K (e, Sum.inr (Sum.inr d)))
      (r₁ := 0) (r₂ := 0) (d₁ := 0) (d₂ := 0) (fd := fd)
      (by rw [duties_send m ρ c _ hd]; exact Finset.mem_singleton_self _)
      (by rw [duties_recv m ρ _ _ hd]; exact Finset.mem_singleton_self _)
      () () N rfl
      (amount_send m ρ c d 0) (amount_recv m ρ e d 0) O rfl (W := W)
      (by rw [hp1])
      (by rw [hp2]; exact BIBase.Entails.of_eq (pointsTo_congr (landed_eq m ρ c e fd)))

/-- The copy of rows `c + n` to device `c + n`. -/
theorem step_send (n : ℕ) {e : ℕ} {he : e < nD} (hn : n < 32) (h1 : 1 ≤ n) (hd : e = (c.val + n) % 32)
    {xo : Fin S1024x32.rank → ℕ} {co : Fin S32x32x32.rank → ℕ} {sS rS : DmaSem sig}
    {hx : ∀ a, xo a + S32x32.size a ≤ S1024x32.size a} {hc : ∀ a, co a + S1x32x32.size a ≤ S32x32x32.size a}
    (hxo : xo = ![32 * ((c.val + n) % 32), 0]) (hco : co = ![c.val, 0, 0])
    (hsS : sS = sendS ⟨n, hn⟩) (hrS : rS = recvS ⟨n, hn⟩)
    {hsc} {hsrc} {hdst} {hsem}
    {Q : α → sProp 𝕄} {R : sProp 𝕄}
    (h : iprop(records m ρ K ∗ owing c (owedRecv c (n + 1)) ∗ bigSep (up (n + 1)) (sendGift m ρ c)
        ∗ bigSep (dn (n + 1)) (sendCred c) ∗ R)
      ⊢ wp frame (wpE (defs₀ (F := F)) 𝒱₀ (c : Thread nD τ) none) Set.univ (k ⟨⟩) Q) :
    iprop(records m ρ K ∗ owing c (owedRecv c n) ∗ bigSep (up n) (sendGift m ρ c) ∗ bigSep (dn n) (sendCred c) ∗ R)
      ⊢ wp frame (wpE (defs₀ (F := F)) 𝒱₀ (c : Thread nD τ) none) Set.univ
          (.op (.enqueueDma (xM.slice (Rect.unit (s := S1024x32) xo S32x32.size hx) (fun _ => rfl))
            (.remote (Dev.tc ⟨e, he⟩ : Thread nD τ)
              ((cM.slice (Rect.unit (s := S32x32x32) co S1x32x32.size hc) (fun _ => rfl)).squeeze S32x32 squeezes_S1x32x32_S32x32)
              (.dma sS) hsc) (.dma rS) hsrc hdst hsem) k) Q := by
  subst hsS hrS
  obtain rfl : xo = xOff (c + ⟨n, hn⟩) := hxo
  obtain rfl : co = cOff c := hco
  generalize hg : (⟨e, he⟩ : Dev nD) = g at *
  obtain rfl : g = c + ⟨n, hn⟩ := hg.symm.trans (Fin.ext hd)
  clear hg
  rw [up_split n hn, dn_join n hn h1] at *
  rw [owedRecv_step c n hn]
  unfold owing sendGift sendToks
  iintro ⟨#HR, ⟨%W, HO⟩, ⟨⟨⟨%fd, Hslot⟩, Hrow, Ht1, Ht2⟩, Hup⟩, Hdn, HF⟩
  iapply (send_rule m ρ K c ⟨n, hn⟩ (off_ne_zero n hn h1) (c + ⟨n, hn⟩) rfl (owedRecv c (n + 1)) W fd) $$ [Hslot Hrow HO Ht1 Ht2]
  · isplitr; · iapply (inv_at m ρ K (c, Sum.inr (Sum.inl ⟨n, hn⟩))); iexact HR
    isplitr; · iapply (inv_at m ρ K (c + ⟨n, hn⟩, Sum.inr (Sum.inr ⟨n, hn⟩))); iexact HR
    isplitl [Hrow]; · iexact Hrow
    isplitl [Hslot]; · iexact Hslot
    isplitl [HO]; · iexact HO
    isplitl [Ht1]; · iexact Ht1
    isplitr; · iapply (reached_at m ρ K (c, Sum.inr (Sum.inl ⟨n, hn⟩))); iexact HR
    isplitl [Ht2]; · iexact Ht2
    iapply (reached_at m ρ K (c + ⟨n, hn⟩, Sum.inr (Sum.inr ⟨n, hn⟩))); iexact HR
  iintro ⟨Hc, HO⟩
  iapply h
  unfold owing sendCred
  isplitr; · iexact HR
  isplitl [HO]; · iexists W; iexact HO
  isplitl [Hup]; · unfold sendGift sendToks; iexact Hup
  isplitl [Hc Hdn]
  · isplitl [Hc]; · iexact Hc
    iexact Hdn
  iexact HF

/-- The wait for the block from `c - n`. -/
theorem step_recv (n : ℕ) (hn : n < 32) (h1 : 1 ≤ n)
    {xo : Fin S1024x32.rank → ℕ} {co : Fin S32x32x32.rank → ℕ} {rS : DmaSem sig}
    {hx : ∀ a, xo a + S32x32.size a ≤ S1024x32.size a} {hc : ∀ a, co a + S1x32x32.size a ≤ S32x32x32.size a}
    (hrS : rS = recvS ⟨n, hn⟩) {hsrc} {hdst}
    {Q : α → sProp 𝕄} {R : sProp 𝕄}
    (h : iprop(records m ρ K ∗ owing c 0 ∗ bigSep (up (n + 1)) (recvDue c) ∗ bigSep (dn (n + 1)) (recvDone m ρ c) ∗ R)
      ⊢ wp frame (wpE (defs₀ (F := F)) 𝒱₀ (c : Thread nD τ) none) Set.univ (k ⟨⟩) Q) :
    iprop(records m ρ K ∗ owing c 0 ∗ bigSep (up n) (recvDue c) ∗ bigSep (dn n) (recvDone m ρ c) ∗ R)
      ⊢ wp frame (wpE (defs₀ (F := F)) 𝒱₀ (c : Thread nD τ) none) Set.univ
          (.op (.waitDma2 rS (xM.slice (Rect.unit (s := S1024x32) xo S32x32.size hx) (fun _ => rfl))
            ((cM.slice (Rect.unit (s := S32x32x32) co S1x32x32.size hc) (fun _ => rfl)).squeeze S32x32 squeezes_S1x32x32_S32x32)
            hsrc hdst) k) Q := by
  subst hrS
  rw [up_split n hn, dn_join n hn h1] at *
  unfold owing recvDue
  iintro ⟨#HR, ⟨%W, HO⟩, ⟨⟨Hc, Hat⟩, Hup⟩, Hdn, HF⟩
  iapply (Rounds.wp_wait_rest_token 𝒱₀ ER (xRd m ρ) (c : Thread nD τ) none (κ := K (c, Sum.inr (Sum.inr ⟨n, hn⟩)))
      (wpE_waitDma2_eq 𝒱₀ (c : Thread nD τ) none Set.univ) (Set.mem_univ _) () (O := 0) (W := W) (R := 0) (m := 0) (T := ∅)
      (by rw [Nat.zero_add, expect_recv m ρ c _ (off_ne_zero n hn h1)])) $$ [Hc HO Hat]
  · isplitr; · iapply (inv_at m ρ K (c, Sum.inr (Sum.inr ⟨n, hn⟩))); iexact HR
    isplitl [Hc]; · iexact Hc
    isplitl [HO]; · iexact HO
    isplitr; · rw [MayWait_zero]; iempintro
    iexact Hat
  iintro ⟨HO, Hat, -, Hpay⟩
  ihave Hp := (Entails.of_eq (rest_recv m ρ c _ (off_ne_zero n hn h1))) $$ Hpay
  imod (Rounds.cell_close ER (xRd m ρ) (Set.mem_univ (K (c, Sum.inr (Sum.inr ⟨n, hn⟩)))) (fun h => h) (R := 0 + 1)
    (duties_later m ρ (recvCell c ⟨n, hn⟩))) $$ [Hat] with Hz
  · isplitr; · iapply (inv_at m ρ K (c, Sum.inr (Sum.inr ⟨n, hn⟩))); iexact HR
    iexact Hat
  iapply h
  unfold owing
  isplitr; · iexact HR
  isplitl [HO]; · iexists _; iexact HO
  isplitl [Hup]; · unfold recvDue; iexact Hup
  isplitl [Hz Hp Hdn]
  · isplitl [Hz Hp]
    · unfold recvDone
      isplitl [Hz] <;> iassumption
    iexact Hdn
  iexact HF

/-- The wait for the departure of the copy to `c + n`. -/
theorem step_sent (n : ℕ) (hn : n < 32) (h1 : 1 ≤ n)
    {xo : Fin S1024x32.rank → ℕ} {co : Fin S32x32x32.rank → ℕ} {sS : DmaSem sig}
    {hx : ∀ a, xo a + S32x32.size a ≤ S1024x32.size a} {hc : ∀ a, co a + S1x32x32.size a ≤ S32x32x32.size a}
    (hsS : sS = sendS ⟨n, hn⟩) {hsrc} {hdst}
    {Q : α → sProp 𝕄} {R : sProp 𝕄}
    (h : iprop(records m ρ K ∗ owing c 0 ∗ bigSep (up (n + 1)) (sendDue c) ∗ bigSep (dn (n + 1)) (sendDone m ρ c) ∗ R)
      ⊢ wp frame (wpE (defs₀ (F := F)) 𝒱₀ (c : Thread nD τ) none) Set.univ (k ⟨⟩) Q) :
    iprop(records m ρ K ∗ owing c 0 ∗ bigSep (up n) (sendDue c) ∗ bigSep (dn n) (sendDone m ρ c) ∗ R)
      ⊢ wp frame (wpE (defs₀ (F := F)) 𝒱₀ (c : Thread nD τ) none) Set.univ
          (.op (.waitDma2 sS
            ((cM.slice (Rect.unit (s := S32x32x32) co S1x32x32.size hc) (fun _ => rfl)).squeeze S32x32 squeezes_S1x32x32_S32x32)
            (xM.slice (Rect.unit (s := S1024x32) xo S32x32.size hx) (fun _ => rfl))
            hsrc hdst) k) Q := by
  subst hsS
  rw [up_split n hn, dn_join n hn h1] at *
  unfold owing sendDue sendCred
  iintro ⟨#HR, ⟨%W, HO⟩, ⟨⟨Hc, Hat⟩, Hup⟩, Hdn, HF⟩
  iapply (Rounds.wp_wait_rest_token 𝒱₀ ER (xRd m ρ) (c : Thread nD τ) none (κ := K (c, Sum.inr (Sum.inl ⟨n, hn⟩)))
      (wpE_waitDma2_eq 𝒱₀ (c : Thread nD τ) none Set.univ) (Set.mem_univ _) () (O := 0) (W := W) (R := 0) (m := 0) (T := ∅)
      (by rw [Nat.zero_add, expect_send m ρ c _ (off_ne_zero n hn h1)]; exact xRow_credit 0)) $$ [Hc HO Hat]
  · isplitr; · iapply (inv_at m ρ K (c, Sum.inr (Sum.inl ⟨n, hn⟩))); iexact HR
    isplitl [Hc]; · iexact Hc
    isplitl [HO]; · iexact HO
    isplitr; · rw [MayWait_zero]; iempintro
    iexact Hat
  iintro ⟨HO, Hat, -, Hpay⟩
  ihave Hp := (Entails.of_eq (rest_send m ρ c _ (off_ne_zero n hn h1))) $$ Hpay
  imod (Rounds.cell_close ER (xRd m ρ) (Set.mem_univ (K (c, Sum.inr (Sum.inl ⟨n, hn⟩)))) (fun h => h) (R := 0 + 1)
    (duties_later m ρ (sendCell c ⟨n, hn⟩))) $$ [Hat] with Hz
  · isplitr; · iapply (inv_at m ρ K (c, Sum.inr (Sum.inl ⟨n, hn⟩))); iexact HR
    iexact Hat
  iapply h
  unfold owing
  isplitr; · iexact HR
  isplitl [HO]; · iexists _; iexact HO
  isplitl [Hup]; · unfold sendDue sendCred; iexact Hup
  isplitl [Hz Hp Hdn]
  · isplitl [Hz Hp]
    · unfold sendDone
      isplitl [Hz] <;> iassumption
    iexact Hdn
  iexact HF

/-! ## The device's own block, and reading the slots -/

/-- What the kernel reads of slot `j` at the end: row block `c` of device `j`'s operand. -/
def slotVal (c : Dev nD) (j : Fin 32) : Vec F S1x32x32 .bf16 := fun i => gathered m ρ c (ix3 j (i (1 : Fin 3)) (i (2 : Fin 3)))

omit [FloatOps F] in
theorem cRect_emb (j : Fin 32) (y : S1x32x32.Idx) :
    (cM.access (cRect j)).emb y = (ix3 j (y (1 : Fin 3)) (y (2 : Fin 3)) : S32x32x32.Idx) := by
  have h0 : (y (0 : Fin 3)).val = 0 := Nat.lt_one_iff.mp (y (0 : Fin 3)).isLt
  funext a
  fin_cases a
  · exact Fin.ext (show j.val + 1 * (y (0 : Fin 3)).val = j.val by omega)
  · exact Fin.ext (show 0 + 1 * (y (1 : Fin 3)).val = (y (1 : Fin 3)).val by omega)
  · exact Fin.ext (show 0 + 1 * (y (2 : Fin 3)).val = (y (2 : Fin 3)).val by omega)

omit [FloatOps F] in
theorem xRect_emb (j : Fin 32) (r k : Fin 32) :
    (xM.access (xRect j)).emb (ix2 r k : S32x32.Idx) = (ix2 (rowIn j r) k : S1024x32.Idx) := xRow_emb j r k

omit [FloatOps F] in
theorem read_slot (c : Dev nD) (j : Fin 32) :
    (cM.access (cRect j)).read (Elt F) (gathered m ρ c) = slotVal m ρ c j := by
  funext y
  rw [View.read_apply, cRect_emb]; rfl

theorem pay3_apply (v : Vec F S32x32 .bf16) (u : Fin 1) (r k : Fin 32) :
    k0_pay3 v (ix3 u r k : S1x32x32.Idx) = v (ix2 r k : S32x32.Idx) := by
  unfold k0_pay3
  refine (shapeCast_ab_1ab_apply _ _ u r k).trans ?_
  rw [shapeCast_self]

theorem own_read (c : Dev nD) (r k : Fin 32) :
    (xM.access (xRect c)).read (Elt F) (xstg m ρ c) (ix2 r k : S32x32.Idx)
      = xstg m ρ c (ix2 (rowIn c r) k : S1024x32.Idx) := by
  rw [View.read_apply, xRect_emb]; rfl

theorem own_at (c : Dev nD) (f : (cc0_scratch0 : Ref sig .tc).ty.Contents (Elt F)) (v : Vec F S32x32 .bf16) (u : Fin 1)
    (r k : Fin 32) :
    (cM.access (cRect c)).write (Elt F) f (k0_pay3 v) Finset.univ ((cM.access (cRect c)).emb (ix3 u r k : S1x32x32.Idx))
      = v (ix2 r k : S32x32.Idx) := by
  rw [View.write_emb_of_mem _ _ (x := ix3 u r k) (Finset.mem_univ _)]
  exact pay3_apply v u r k

/-- Row block `c` of device `c`'s own operand, stored into its slot `c`, is what it has to gather there. -/
theorem own_eq (c : Dev nD) (f : (cc0_scratch0 : Ref sig .tc).ty.Contents (Elt F)) :
    ∀ i ∈ (slot c).view.set,
      (cM.access (cRect c)).write (Elt F) f (k0_pay3 ((xM.access (xRect c)).read (Elt F) (xstg m ρ c))) Finset.univ i
        = gathered m ρ c i := by
  have hset : (slot c).view.set = (cM.access (cRect c)).set := View.set_reshape _ _
  rw [hset]
  generalize hv : (xM.access (xRect c)).read (Elt F) (xstg m ρ c) = v
  intro i hi
  obtain ⟨y, -, rfl⟩ := Finset.mem_map.mp hi
  obtain ⟨u, r, k, rfl⟩ : ∃ (u : Fin 1) (r k : Fin 32), y = (ix3 u r k : S1x32x32.Idx) :=
    ⟨y (0 : Fin 3), y (1 : Fin 3), y (2 : Fin 3), by funext a; fin_cases a <;> rfl⟩
  refine (own_at c f v u r k).trans ?_
  rw [cRect_emb, ← hv, own_read]
  rfl

/-- The device's own block, copied by a load and a store (the slot's old contents are loaded and not used). -/
theorem step_own {xo : Fin S1024x32.rank → ℕ} {co : Fin S32x32x32.rank → ℕ}
    {hx : ∀ a, xo a + S32x32.size a ≤ S1024x32.size a} {hc : ∀ a, co a + S1x32x32.size a ≤ S32x32x32.size a}
    (hxo : xo = ![32 * c.val, 0]) (hco : co = ![c.val, 0, 0])
    {hl} {hl'} {hs} {hm}
    {Q : α → sProp 𝕄} {R : sProp 𝕄}
    (h : iprop(records m ρ K ∗ owing c 0 ∗ bigSep (up 1) (recvDue c) ∗ bigSep (dn 1) (recvDone m ρ c) ∗ midOut m ρ c ∗ R)
      ⊢ wp frame (wpE (defs₀ (F := F)) 𝒱₀ (c : Thread nD τ) none) Set.univ (k ⟨⟩) Q) :
    iprop(records m ρ K ∗ owing c (owedRecv c 32) ∗ bigSep (up 32) (sendGift m ρ c) ∗ bigSep (dn 32) (sendCred c)
        ∗ midIn m ρ c ∗ R)
      ⊢ wp frame (wpE (defs₀ (F := F)) 𝒱₀ (c : Thread nD τ) none) Set.univ
          (.op (.load xM (Rect.unit (s := S1024x32) xo S32x32.size hx).toLoadRect hl) fun v =>
            .op (.load cM (Rect.unit (s := S32x32x32) co S1x32x32.size hc).toLoadRect hl') fun _ =>
            .op (.store cM (Rect.unit (s := S32x32x32) co S1x32x32.size hc) (k0_pay3 v) Finset.univ hs hm) k) Q := by
  obtain rfl : xo = xOff c := hxo
  obtain rfl : co = cOff c := hco
  rw [owedRecv_last]
  unfold midIn midPre rowPts slotPts
  iintro ⟨#HR, HO, -, Hcr, ⟨Hbar, Hx, ⟨%f, Hs⟩, Hrd, Hat⟩, HF⟩
  iapply (wp_load_rect 𝒱₀ (c : Thread nD τ) none Set.univ (m := xM) (r := xRect c) (S := (xRow c).view.set) subset_rfl) $$ Hx
  iintro Hx
  iapply (wp_load_rect 𝒱₀ (c : Thread nD τ) none Set.univ (m := cM) (r := cRect c) (S := (slot c).view.set)
    (by rw [View.set_reshape])) $$ Hs
  iintro Hs
  iapply (wp_store 𝒱₀ (c : Thread nD τ) none Set.univ (m := cM) (r := cRect c) (Mk := Finset.univ) (S := (slot c).view.set)
    (by rw [View.set_reshape]; exact subset_rfl)) $$ Hs
  iintro Hs
  ihave Hs := (BIBase.Entails.of_eq (pointsTo_congr (own_eq m ρ c f))) $$ Hs
  iapply h
  unfold midOut rowPts slotPts
  isplitr; · iexact HR
  isplitl [HO]; · iexact HO
  isplitl [Hrd]; · iexact Hrd
  isplitr; · rw [dn_one, bigSep_empty]; iempintro
  isplitr [HF]
  · isplitl [Hbar]; · iexact Hbar
    isplitl [Hx]; · iexact Hx
    isplitl [Hs]; · iexact Hs
    unfold sendDue; rw [bigSep_sep', dn_last, up_one]
    isplitl [Hcr] <;> iassumption
  iexact HF

/-- All received: on to the send waits. -/
theorem turn_sent {p : Prog (TpuEff nD τ sig (Elt F) Λ₀ .tc) α} {Q : α → sProp 𝕄} {R : sProp 𝕄}
    (h : iprop(records m ρ K ∗ owing c 0 ∗ bigSep (up 1) (sendDue c) ∗ bigSep (dn 1) (sendDone m ρ c)
        ∗ (semVal (barCell c) 0 ∗ rowPts m ρ c c ∗ slotPts c c (gathered m ρ c) ∗ bigSep offs (recvDone m ρ c)) ∗ R)
      ⊢ wp frame (wpE (defs₀ (F := F)) 𝒱₀ (c : Thread nD τ) none) Set.univ p Q) :
    iprop(records m ρ K ∗ owing c 0 ∗ bigSep (up 32) (recvDue c) ∗ bigSep (dn 32) (recvDone m ρ c) ∗ midOut m ρ c ∗ R)
      ⊢ wp frame (wpE (defs₀ (F := F)) 𝒱₀ (c : Thread nD τ) none) Set.univ p Q := by
  refine BIBase.Entails.trans ?_ h
  unfold midOut
  rw [dn_one, bigSep_empty, dn_last]
  iintro ⟨#HR, HO, -, Hd, ⟨Hbar, Hx, Hs, Hsd⟩, HF⟩
  isplitr; · iexact HR
  isplitl [HO]; · iexact HO
  isplitl [Hsd]; · iexact Hsd
  isplitr; · iempintro
  isplitr [HF]
  · isplitl [Hbar]; · iexact Hbar
    isplitl [Hx]; · iexact Hx
    isplitl [Hs]; · iexact Hs
    iexact Hd
  iexact HF

/-- Every kernel semaphore that was used, at zero. -/
def semsDone (c : Dev nD) : sProp 𝕄 :=
  iprop(semVal (barCell c) 0 ∗ (bigSep offs fun d => semVal (sendCell c d) 0) ∗ bigSep offs fun d => semVal (recvCell c d) 0)

omit [FloatOps F] in
/-- All slots are told by the offset they were filled at, and the device's own. -/
theorem slots_around (Φ : Fin 32 → sProp 𝕄) : iprop(Φ c ∗ bigSep offs fun d => Φ (c - d)) = bigSep Finset.univ Φ := by
  have hu : (Finset.univ : Finset (Fin 32)) = insert c (offs.map ⟨fun d => c - d, sub_inj32 c⟩) := by
    revert c; decide
  have hn : c ∉ offs.map ⟨fun d => c - d, sub_inj32 c⟩ := by revert c; decide
  rw [hu, bigSep_insert hn, bigSep_map]; rfl

omit [FloatOps F] in
theorem rows_around (Φ : Fin 32 → sProp 𝕄) : iprop(Φ c ∗ bigSep offs fun d => Φ (c + d)) = bigSep Finset.univ Φ := by
  have hu : (Finset.univ : Finset (Fin 32)) = insert c (offs.map ⟨fun d => c + d, add_inj32 c⟩) := by
    revert c; decide
  have hn : c ∉ offs.map ⟨fun d => c + d, add_inj32 c⟩ := by revert c; decide
  rw [hu, bigSep_insert hn, bigSep_map]; rfl

/-- All sent: both buffers are whole again. -/
theorem turn_loads {p : Prog (TpuEff nD τ sig (Elt F) Λ₀ .tc) α} {Q : α → sProp 𝕄} {R : sProp 𝕄}
    (h : iprop(owing c 0 ∗ ((c : Thread nD τ).loc cc0_scratch0 ↦{fullShare} gathered m ρ c)
        ∗ ((c : Thread nD τ).loc cc0_stg0_0 ↦{fullShare} xstg m ρ c) ∗ semsDone c ∗ records m ρ K ∗ R)
      ⊢ wp frame (wpE (defs₀ (F := F)) 𝒱₀ (c : Thread nD τ) none) Set.univ p Q) :
    iprop(records m ρ K ∗ owing c 0 ∗ bigSep (up 32) (sendDue c) ∗ bigSep (dn 32) (sendDone m ρ c)
        ∗ (semVal (barCell c) 0 ∗ rowPts m ρ c c ∗ slotPts c c (gathered m ρ c) ∗ bigSep offs (recvDone m ρ c)) ∗ R)
      ⊢ wp frame (wpE (defs₀ (F := F)) 𝒱₀ (c : Thread nD τ) none) Set.univ p Q := by
  refine BIBase.Entails.trans ?_ h
  rw [slots_eq, rows_eq, dn_last, ← slots_around c, ← rows_around c]
  unfold sendDone recvDone semsDone
  rw [bigSep_sep', bigSep_sep']
  iintro ⟨#HR, HO, -, ⟨Hs0, Hrows⟩, ⟨Hbar, Hx, Hs, Hr0, Hslots⟩, HF⟩
  isplitl [HO]; · iexact HO
  isplitl [Hs Hslots]; · isplitl [Hs] <;> iassumption
  isplitl [Hx Hrows]; · isplitl [Hx] <;> iassumption
  isplitl [Hbar Hs0 Hr0]
  · isplitl [Hbar]; · iexact Hbar
    isplitl [Hs0] <;> iassumption
  isplitr; · iexact HR
  iexact HF

/-- One of the 32 loads at the end. -/
theorem step_load (n : ℕ) {hn : n < 32} {hc : ∀ a, (![n, 0, 0] : Fin 3 → ℕ) a + S1x32x32.size a ≤ S32x32x32.size a} {hl}
    {k : Vec F S1x32x32 .bf16 → Prog (TpuEff nD τ sig (Elt F) Λ₀ .tc) α}
    {Q : α → sProp 𝕄} {R : sProp 𝕄}
    (h : iprop(owing c 0 ∗ ((c : Thread nD τ).loc cc0_scratch0 ↦{fullShare} gathered m ρ c) ∗ R)
      ⊢ wp frame (wpE (defs₀ (F := F)) 𝒱₀ (c : Thread nD τ) none) Set.univ (k (slotVal m ρ c ⟨n, hn⟩)) Q) :
    iprop(owing c 0 ∗ ((c : Thread nD τ).loc cc0_scratch0 ↦{fullShare} gathered m ρ c) ∗ R)
      ⊢ wp frame (wpE (defs₀ (F := F)) 𝒱₀ (c : Thread nD τ) none) Set.univ
          (.op (.load cM (Rect.unit (s := S32x32x32) ![n, 0, 0] S1x32x32.size hc).toLoadRect hl) k) Q := by
  rw [← read_slot] at h
  iintro ⟨HO, Hs, HF⟩
  iapply (wp_load_rect 𝒱₀ (c : Thread nD τ) none Set.univ (m := cM) (r := cRect ⟨n, hn⟩) (S := Finset.univ)
    (Finset.subset_univ _)) $$ Hs
  iintro Hs
  iapply h
  isplitl [HO]; · iexact HO
  isplitl [Hs] <;> iassumption

end Steps

end Cert.Exchange

end
-- ==== Proof.Setup.lean ====
/-
# Setting the exchange up

Before any device runs, every semaphore's cell is allocated at its only round and the duties are handed to the devices
that pay them: device `c` gets the barrier duty `d` of device `c + d`, its own send duties, and the receive duty `d`
of device `c + d`. The units owed at launch come back as each device's own waiting credit.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## Cells and duties at launch -/

theorem osem_inj : Function.Injective osem := by
  have hv : ∀ q q' : DmaSem sig, (SemLoc.dma q : SemLoc sig) = .dma q' → q.val = q'.val := fun q q' h => by cases h; rfl
  rintro (d | d) (d' | d') h <;> have h := hv _ _ h <;> simp only [sendS_val, recvS_val] at h
  · exact congrArg Sum.inl (Fin.ext (by omega))
  · omega
  · omega
  · exact congrArg Sum.inr (Fin.ext (by omega))

theorem ownSemFacts : Pipeline.OwnSemFacts cfg0.spec osem := by decide

theorem kcell_inj : Function.Injective (kcell : Dev nD × CK → GSem nD τ sig) := by
  rintro ⟨c, k⟩ ⟨c', k'⟩ h
  have h1 : c = c' := congrArg (fun g : GSem nD τ sig => g.1.1) h
  have h2 : csem k = csem k' := congrArg Prod.snd h
  subst h1
  rcases k with k | k <;> rcases k' with k' | k'
  · rfl
  · rcases k' with d | d <;> cases h2
  · rcases k with d | d <;> cases h2
  · exact congrArg (fun k => (c, Sum.inr k)) (osem_inj h2)

/-- The duties of a device's cells: its barrier's, one for every offset, then its sends' and its receives'. Those at
    offset `0` exist too, but nobody will use them. -/
abbrev DK : Type := Fin 32 ⊕ (Fin 32 ⊕ Fin 32)
abbrev dutyOf (ck : Dev nD × DK) : GSem nD τ sig × ℕ × Fin 32 := match ck.2 with
  | .inl d => (barCell ck.1, 0, d)
  | .inr k => (((ck.1 : Thread nD τ), osem k), 0, 0)

theorem dutyOf_inj : Function.Injective (dutyOf : Dev nD × DK → GSem nD τ sig × ℕ × Fin 32) := by
  rintro ⟨c, k⟩ ⟨c', k'⟩ h
  rcases k with d | k <;> rcases k' with d' | k'
  · have h1 : c = c' := congrArg (fun x : GSem nD τ sig × ℕ × Fin 32 => x.1.1.1) h
    have h2 : d = d' := congrArg (fun x : GSem nD τ sig × ℕ × Fin 32 => x.2.2) h
    rw [h1, h2]
  · have h2 : (SemLoc.reg barS : SemLoc sig) = osem k' := congrArg (fun x : GSem nD τ sig × ℕ × Fin 32 => x.1.2) h
    rcases k' with d | d <;> cases h2
  · have h2 : osem k = (SemLoc.reg barS : SemLoc sig) := congrArg (fun x : GSem nD τ sig × ℕ × Fin 32 => x.1.2) h
    rcases k with d | d <;> cases h2
  · have h1 : c = c' := congrArg (fun x : GSem nD τ sig × ℕ × Fin 32 => x.1.1.1) h
    have h2 : osem k = osem k' := congrArg (fun x : GSem nD τ sig × ℕ × Fin 32 => x.1.2) h
    rw [h1, osem_inj h2]

def allCells : Finset (GSem nD τ sig) := Finset.univ.map ⟨kcell, kcell_inj⟩
def allDuties : Finset (GSem nD τ sig × ℕ × Fin 32) := Finset.univ.map ⟨dutyOf, dutyOf_inj⟩

def u₀ : UU :=
  (initOf (Pipeline.cells cfgs cellOf_inj) (Pipeline.launchToks cfgs cellOf_inj), initOf allCells allDuties)

/-- The duties of device `c`'s own cells, and those device `c` pays. -/
def ownDuties (c : Dev nD) : sProp 𝕄 :=
  iprop((bigSep Finset.univ fun d => dutyTok ER (barCell c) 0 d) ∗ (bigSep Finset.univ fun d => dutyTok ER (sendCell c d) 0 0)
    ∗ bigSep Finset.univ fun d => dutyTok ER (recvCell c d) 0 0)
def payDuties (c : Dev nD) : sProp 𝕄 :=
  iprop((bigSep Finset.univ fun d => dutyTok ER (barCell (c + d)) 0 d) ∗ (bigSep Finset.univ fun d => dutyTok ER (sendCell c d) 0 0)
    ∗ bigSep Finset.univ fun d => dutyTok ER (recvCell (c + d) d) 0 0)

/-- What the launch deals device `c`. -/
def G (c : Dev nD) : sProp 𝕄 :=
  iprop((bigSep Finset.univ fun k : CK => roundState ER (xRd m ρ) (kcell (c, k)) 0)
    ∗ (bigSep Finset.univ fun k : CK => iprop(atPos ER (kcell (c, k)) 0 ∅ 0 ∗ reached ER (kcell (c, k)) 0)) ∗ ownDuties c)

/-- Known to everybody, but for the levels. -/
def marks (K : Dev nD × CK → ℕ) : sProp 𝕄 :=
  iprop((bigSep Finset.univ fun ck : Dev nD × CK => cellInv ER (xRd m ρ) (K ck) (kcell ck))
    ∗ bigSep Finset.univ fun ck : Dev nD × CK => reached ER (kcell ck) 0)
instance marks_persistent (K : Dev nD × CK → ℕ) : BI.Persistent (marks m ρ K) := by unfold marks; infer_instance

/-- What stays with device `c`. -/
def mine (c : Dev nD) : sProp 𝕄 :=
  iprop((bigSep Finset.univ fun k : CK => atPos ER (kcell (c, k)) 0 ∅ 0) ∗ payDuties c)
def G' (c : Dev nD) : sProp 𝕄 := iprop(∃ K, marks m ρ K ∗ mine c)

omit [FloatOps F] in
theorem fund : BI.own (ER (initOf allCells allDuties)) ⊢ (|==> bigSep Finset.univ (G m ρ) : sProp 𝕄) := by
  have hX (Φ : GSem nD τ sig → sProp 𝕄) :
      bigSep allCells Φ = bigSep Finset.univ fun c : Dev nD => bigSep Finset.univ fun k : CK => Φ (kcell (c, k)) := by
    unfold allCells; rw [bigSep_map, bigSep_univ_prod]; rfl
  have hT : bigSep allDuties (fun x => (dutyTok ER x.1 x.2.1 x.2.2 : sProp 𝕄)) = bigSep Finset.univ fun c : Dev nD => ownDuties c := by
    unfold allDuties; rw [bigSep_map, bigSep_univ_prod]
    refine bigSep_congr fun c _ => ?_
    rw [bigSep_univ_sum, bigSep_univ_sum]; rfl
  iintro HX
  imod (Rounds.fund ER (xRd m ρ) allCells allDuties) $$ HX with ⟨Hst, Hr, Hat, Htok⟩
  imodintro
  ihave Hst' := (Entails.of_eq (hX fun g => roundState ER (xRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## All semaphores' cells allocated -/

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) :
    (Pipeline.ownSems0 (Ix := Unit) (Name := ℕ) (U := UU) (Lvl := ℕ) (Val := Elt F) (τ := τ) osem c : sProp 𝕄)
      = iprop((bigSep Finset.univ fun d => semVal (sendCell c d) 0) ∗ bigSep Finset.univ fun d => semVal (recvCell c d) 0) := by
  unfold Pipeline.ownSems0; rw [bigSep_univ_sum]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_univ_sum, show (Finset.univ : Finset Unit) = {()} from rfl, bigSep_singleton]
  unfold Pipeline.ownSems0
  show iprop((bigSep Finset.univ fun k => semVal ((c : Thread nD τ), osem k) 0) ∗ semVal (barCell c) 0)
    ⊢ iprop(semVal (barCell c) 0 ∗ bigSep Finset.univ fun k => semVal ((c : Thread nD τ), osem k) 0)
  iintro ⟨HS, HB⟩
  isplitl [HB]; · iexact HB
  iexact HS

omit [FloatOps F] in
theorem cells_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (xRd m ρ) κ (kcell (c, k))))
          ∗ (bigSep Finset.univ fun k => iprop(atPos ER (kcell (c, k)) 0 ∅ 0 ∗ reached ER (kcell (c, k)) 0)) ∗ ownDuties c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (xRd m ρ) (kcell (c, k)) 0)
      ⊢ (|={Set.univ}=> bigSep Finset.univ fun k => iprop(∃ κ : ℕ, cellInv ER (xRd m ρ) κ (kcell (c, k))) : sProp 𝕄) from by
        rw [← bigSep_sep']
        exact (bigSep_mono fun k _ => (Rounds.body_intro ER (xRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Device and offset, seen from the device `d` further on. -/
def onward : Dev nD × Fin 32 ≃ Dev nD × Fin 32 :=
  ⟨fun p => (p.1 + p.2, p.2), fun p => (p.1 - p.2, p.2), fun p => Prod.ext (add_sub32 p.1 p.2) rfl,
    fun p => Prod.ext (sub_add32 p.1 p.2) rfl⟩

omit [FloatOps F] in
theorem deal (Φ : Dev nD → Fin 32 → sProp 𝕄) :
    (bigSep Finset.univ fun c : Dev nD => bigSep Finset.univ fun d : Fin 32 => Φ c d)
      = bigSep Finset.univ fun c : Dev nD => bigSep Finset.univ fun d : Fin 32 => Φ (c + d) d := by
  rw [← bigSep_univ_prod fun p : Dev nD × Fin 32 => Φ p.1 p.2, bigSep_univ_equiv onward, bigSep_univ_prod]; rfl

omit [FloatOps F] in
theorem duties_dealt : (bigSep Finset.univ fun c : Dev nD => (ownDuties c : sProp 𝕄)) ⊢ bigSep Finset.univ fun c : Dev nD => payDuties c := by
  unfold ownDuties payDuties
  rw [bigSep_sep', bigSep_sep', bigSep_sep', bigSep_sep',
    deal fun c d => (dutyTok ER (barCell c) 0 d : sProp 𝕄), deal fun c d => (dutyTok ER (recvCell c d) 0 0 : sProp 𝕄)]

omit [FloatOps F] in
/-- The marks may be read by every device, and each takes them along with what is its own. -/
theorem marked (K : Dev nD × CK → ℕ) : iprop(marks m ρ K ∗ bigSep Finset.univ mine) ⊢ bigSep Finset.univ (G' m ρ) := by
  iintro ⟨#HM, HL⟩
  have each : (bigSep Finset.univ fun c => iprop(marks m ρ K ∗ mine (F := F) c)) ⊢ bigSep Finset.univ (G' m ρ) :=
    bigSep_mono fun c _ => show iprop(marks m ρ K ∗ mine c) ⊢ G' m ρ c by unfold G'; iintro H; iexists K; iexact H
  iapply each
  rw [bigSep_sep']
  isplitr
  · iapply (BI.bigSep_of_persistent Finset.univ (marks m ρ K)); iexact HM
  · iexact HL

omit [FloatOps F] in
theorem regroup :
    (bigSep Finset.univ fun c : Dev nD => iprop((bigSep Finset.univ fun k => iprop(∃ κ : ℕ, cellInv ER (xRd m ρ) κ (kcell (c, k))))
          ∗ (bigSep Finset.univ fun k => iprop(atPos ER (kcell (c, k)) 0 ∅ 0 ∗ reached ER (kcell (c, k)) 0)) ∗ ownDuties c) : sProp 𝕄)
      ⊢ bigSep Finset.univ (G' m ρ) := by
  rw [bigSep_sep', bigSep_sep', ← bigSep_univ_prod (fun ck : Dev nD × CK => iprop(∃ κ : ℕ, cellInv ER (xRd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (xRd m ρ) κ (kcell ck) : sProp 𝕄))) $$ HI
  icases HK with ⟨%K, #HI⟩
  ihave Htk := (duties_dealt (F := F)) $$ Htok
  iapply (marked m ρ K)
  isplitr
  · unfold marks; isplitl; · iexact HI
    iexact HR
  · unfold mine; rw [bigSep_sep']
    isplitl [Hat]; · iexact Hat
    iexact Htk

omit [FloatOps F] in
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => cells_alloc m ρ c).trans (bigSep_fupd _ _)).trans (BI.fupd_mono (regroup m ρ))

/-! ## The waiting credit -/

omit [FloatOps F] in
theorem bar_credit (c : Dev nD) :
    (bigSep (up 1) fun _ => cred (tallyAt (barCell c) () 1) : sProp 𝕄) = cred (tallyAt (barCell c) () 31) := by
  rw [← Pipeline.cred_finsetSum]
  refine congrArg cred (funext fun g => Finsupp.ext fun u => ?_)
  rw [Finset.sum_apply, Finsupp.finset_sum_apply, tallyAt_apply, Finset.sum_const, tallyAt_apply]
  split
  · exact (by decide : (up 1).card • 1 = 31)
  · exact smul_zero _

omit [FloatOps F] in
/-- Each device's barrier is owed 31 units, each of its receive semaphores in use `N`. -/
theorem creds (c : Dev nD) :
    (Pipeline.launchCred O₀ c : sProp 𝕄)
      ⊢ iprop(cred (tallyAt (barCell c) () 31) ∗ bigSep (up 1) fun d => cred (tallyAt (recvCell c d) () N)) := by
  have hR : (Pipeline.launchCred (fun e => owedRecv e 1) c : sProp 𝕄) ⊢ bigSep (up 1) fun d => cred (tallyAt (recvCell c d) () N) := by
    unfold owedRecv
    rw [Pipeline.launchCred_sum (up 1) (fun d e => tallyAt (recvCell (e + d) d) () N) c]
    exact bigSep_mono fun d _ => Pipeline.launchCred_tallyAt (.dma (recvS d)) (fun e => e + d) (fun e => e - d)
      (fun e => sub_add32 e d) (fun e => add_sub32 e d) () N c
  have hB : (Pipeline.launchCred (fun e => owedBar e 1) c : sProp 𝕄) ⊢ bigSep (up 1) fun _ => cred (tallyAt (barCell c) () 1) := by
    unfold owedBar
    rw [Pipeline.launchCred_sum (up 1) (fun d e => tallyAt (barCell (e + d)) () 1) c]
    exact bigSep_mono fun d _ => Pipeline.launchCred_tallyAt (.reg barS) (fun e => e + d) (fun e => e - d)
      (fun e => sub_add32 e d) (fun e => add_sub32 e d) () 1 c
  rw [show (O₀ : Dev nD → CellTallies nD τ sig Unit) = fun e => owedRecv e 1 + owedBar e 1 from rfl,
    Pipeline.launchCred_add, ← bar_credit]
  iintro ⟨H1, H2⟩
  isplitl [H2]; · iapply hB; iexact H2
  iapply hR; iexact H1

end Cert.Exchange

end
-- ==== Proof.Result.lean ====
/-
# What a device starts and ends with, and the last step of its run

The contents of the result in terms of the gathered blocks, and the final loads and store.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- The gathered row blocks side by side, as the kernel concatenates them: 32 rows of the whole operand. -/
def joined (c : Dev nD) : FVec F S32x1024 .bf16 :=
  let s := slotVal m ρ c
  k0_pay1 (k0_pay4 (s 0)) (k0_pay5 (s 1)) (k0_pay6 (s 2)) (k0_pay7 (s 3)) (k0_pay8 (s 4)) (k0_pay9 (s 5)) (k0_pay10 (s 6))
    (k0_pay11 (s 7)) (k0_pay12 (s 8)) (k0_pay13 (s 9)) (k0_pay14 (s 10)) (k0_pay15 (s 11)) (k0_pay16 (s 12))
    (k0_pay17 (s 13)) (k0_pay18 (s 14)) (k0_pay19 (s 15)) (k0_pay20 (s 16)) (k0_pay21 (s 17)) (k0_pay22 (s 18))
    (k0_pay23 (s 19)) (k0_pay24 (s 20)) (k0_pay25 (s 21)) (k0_pay26 (s 22)) (k0_pay27 (s 23)) (k0_pay28 (s 24))
    (k0_pay29 (s 25)) (k0_pay30 (s 26)) (k0_pay31 (s 27)) (k0_pay32 (s 28)) (k0_pay33 (s 29)) (k0_pay34 (s 30)) (s 31)

/-- What device `c` writes out. -/
def outAt (c : Dev nD) : (cc0_stg2_0 : Ref sig .tc).ty.Contents (Elt F) := k0_pay2 (joined m ρ c) (wstg m ρ c)

/-- What a device holds when it starts: all it needs for the phases, the weights, the result's place, and its
    positions at the two semaphores that are never used. -/
def runPre (K : Dev nD × CK → ℕ) (c : Dev nD) (R : sProp 𝕄) : sProp 𝕄 :=
  iprop(records m ρ K ∗ owing c (owedRecv c 1 + owedBar c 1) ∗ bigSep (up 1) (barGift c)
    ∗ (cred (tallyAt (barCell c) () 31) ∗ atPos ER (barCell c) 0 ∅ 0 ∗ bigSep (up 1) (sendToks m ρ c) ∗ midPre m ρ c)
    ∗ R)
def restPre (c : Dev nD) : sProp 𝕄 :=
  iprop((((c : Thread nD τ).loc cc0_stg1_0) ↦{fullShare} wstg m ρ c) ∗ (∃ f, ((c : Thread nD τ).loc cc0_stg2_0) ↦{fullShare} f)
    ∗ atPos ER (sendCell c 0) 0 ∅ 0 ∗ atPos ER (recvCell c 0) 0 ∅ 0)

/-- All its semaphores at zero. -/
def semsZero (c : Dev nD) : sProp 𝕄 :=
  iprop(semVal (barCell c) 0 ∗ (bigSep Finset.univ fun d => semVal (sendCell c d) 0)
    ∗ bigSep Finset.univ fun d => semVal (recvCell c d) 0)

/-- What it holds when it ends. -/
def runPost (c : Dev nD) : sProp 𝕄 :=
  iprop(owing c 0 ∗ (((c : Thread nD τ).loc cc0_scratch0) ↦{fullShare} gathered m ρ c)
    ∗ (((c : Thread nD τ).loc cc0_stg0_0) ↦{fullShare} xstg m ρ c)
    ∗ (((c : Thread nD τ).loc cc0_stg1_0) ↦{fullShare} wstg m ρ c)
    ∗ (((c : Thread nD τ).loc cc0_stg2_0) ↦{fullShare} outAt m ρ c) ∗ semsZero c)

omit [FloatOps F] in
theorem read_weights (f : (cc0_stg1_0 : Ref sig .tc).ty.Contents (Elt F)) :
    wM.view.readAt (Elt F) (Rect.unit (s := S1024x1024) ![0, 0] S1024x1024.size inb_S1024x1024_S1024x1024_0_0).toLoadRect f = f :=
  Memref.readAt_unit_zero (Elt F) cc0_stg1_0 (funext fun a => by fin_cases a <;> rfl) _ f

omit [FloatOps F] in
theorem write_result (f w : (cc0_stg2_0 : Ref sig .tc).ty.Contents (Elt F)) :
    (oM.access (Rect.unit (s := S32x1024) ![0, 0] S32x1024.size inb_S32x1024_S32x1024_0_0)).write (Elt F) f w Finset.univ = w :=
  Memref.write_access_unit_zero_univ (Elt F) cc0_stg2_0 (funext fun a => by fin_cases a <;> rfl) _ f w

/-- A part of the kernel ends; what it returns is passed on. -/
theorem part_ret {α : Type} {c : Dev nD} {P : sProp 𝕄} {a : α} {Q : α → sProp 𝕄} (h : P ⊢ Q a) :
    P ⊢ wp frame (wpE (defs₀ (F := F)) 𝒱₀ (c : Thread nD τ) none) Set.univ (.ret a) Q := by
  rw [wp_ret]; iintro H; imodintro; iapply h; iexact H
/-- The same where what follows does not depend on it. -/
theorem part_any {α : Type} {c : Dev nD} {P : sProp 𝕄} {a : α} {Q : α → sProp 𝕄} (h : ∀ a, P ⊢ Q a) :
    P ⊢ wp frame (wpE (defs₀ (F := F)) 𝒱₀ (c : Thread nD τ) none) Set.univ (.ret a) Q := part_ret (h a)

/-- The last two loads and the store of the result; after it everything is as the device leaves it. -/
theorem step_result (K : Dev nD × CK → ℕ) (c : Dev nD) (Kt : PUnit → sProp 𝕄) {hw} {ho} {hs} {hm} :
    iprop(owing c 0 ∗ ((c : Thread nD τ).loc cc0_scratch0 ↦{fullShare} gathered m ρ c)
        ∗ ((c : Thread nD τ).loc cc0_stg0_0 ↦{fullShare} xstg m ρ c) ∗ semsDone c ∗ records m ρ K
        ∗ restPre m ρ c ∗ (runPost m ρ c -∗ Kt ⟨⟩))
      ⊢ wp frame (wpE (defs₀ (F := F)) 𝒱₀ (c : Thread nD τ) none) Set.univ
          (.op (.load wM (Rect.unit (s := S1024x1024) ![0, 0] S1024x1024.size inb_S1024x1024_S1024x1024_0_0).toLoadRect hw) fun w =>
            .op (.load oM (Rect.unit (s := S32x1024) ![0, 0] S32x1024.size inb_S32x1024_S32x1024_0_0).toLoadRect ho) fun _ =>
            .op (.store oM (Rect.unit (s := S32x1024) ![0, 0] S32x1024.size inb_S32x1024_S32x1024_0_0)
              (k0_pay2 (joined m ρ c) w) Finset.univ hs hm) fun _ => .ret ⟨⟩) Kt := by
  unfold restPre
  iintro ⟨HO, Hs, Hx, Hsem, #HR, ⟨Hw, ⟨%f, Ho⟩, Hz1, Hz2⟩, Hk⟩
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM)
    (r := Rect.unit (s := S32x1024) ![0, 0] S32x1024.size inb_S32x1024_S32x1024_0_0) (Mk := Finset.univ)
    (Finset.subset_univ _)) $$ Ho; iintro Ho
  rw [read_weights, write_result]
  rw [wp_ret]
  imod (Rounds.cell_close ER (xRd m ρ) (Set.mem_univ (K (c, Sum.inr (Sum.inl 0)))) (fun h => h) (R := 0)
    (duties_send_zero m ρ c)) $$ [Hz1] with Hz1
  · isplitr; · iapply (inv_at m ρ K (c, Sum.inr (Sum.inl 0))); iexact HR
    iexact Hz1
  imod (Rounds.cell_close ER (xRd m ρ) (Set.mem_univ (K (c, Sum.inr (Sum.inr 0)))) (fun h => h) (R := 0)
    (duties_recv_zero m ρ c)) $$ [Hz2] with Hz2
  · isplitr; · iapply (inv_at m ρ K (c, Sum.inr (Sum.inr 0))); iexact HR
    iexact Hz2
  imodintro
  iapply Hk
  unfold runPost semsZero semsDone
  rw [bigSep_univ_at (fun d => semVal (sendCell c d) 0) 0, bigSep_univ_at (fun d => semVal (recvCell c d) 0) 0]
  icases Hsem with ⟨Hb, Hs1, Hs2⟩
  isplitl [HO]; · iexact HO
  isplitl [Hs]; · iexact Hs
  isplitl [Hx]; · iexact Hx
  isplitl [Hw]; · iexact Hw
  isplitl [Ho]; · iexact Ho
  isplitl [Hb]; · iexact Hb
  isplitl [Hz1 Hs1]
  · isplitl [Hz1] <;> iassumption
  isplitl [Hz2] <;> iassumption

end Cert.Exchange

end
-- ==== Proof.Body.lean ====
/-
# The run of one device

The kernel's body, from what a device holds when it starts to what it holds when it ends: the steps of `Steps`, in
program order.
-/
module

public import proofs.«01_k».proof.Proof.Result

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- Where the copies read from, in the kernel's own words. -/
theorem off2_at (c : Dev nD) (n : ℕ) (hn : n < 32) (h1 : 1 ≤ n) :
    k0_off2 c (BitVec.ofNat 32 n) = ![32 * ((c.val + n) % 32), 0] := by
  have h := k0_off2_eq c ⟨n - 1, by omega⟩
  rw [show 1 + (⟨n - 1, by omega⟩ : Fin 31).val = n by show 1 + (n - 1) = n; omega] at h
  rw [h, show c.val + (⟨n - 1, by omega⟩ : Fin 31).val + 1 = c.val + n by show c.val + (n - 1) + 1 = _; omega]

attribute [local simp] k0_dev1_eq k0_dev2_eq k0_dev3_eq k0_dev4_eq k0_dev5_eq k0_dev6_eq k0_dev7_eq k0_dev8_eq k0_dev9_eq
  k0_dev10_eq k0_dev11_eq k0_dev12_eq k0_dev13_eq k0_dev14_eq k0_dev15_eq k0_dev16_eq k0_dev17_eq k0_dev18_eq k0_dev19_eq
  k0_dev20_eq k0_dev21_eq k0_dev22_eq k0_dev23_eq k0_dev24_eq k0_dev25_eq k0_dev26_eq k0_dev27_eq k0_dev28_eq k0_dev29_eq
  k0_dev30_eq k0_dev31_eq k0_dev32_eq k0_dev33_eq k0_dev34_eq k0_dev35_eq k0_dev36_eq k0_dev37_eq k0_dev38_eq k0_dev39_eq
  k0_dev40_eq k0_dev41_eq k0_dev42_eq k0_dev43_eq k0_dev44_eq k0_dev45_eq k0_dev46_eq k0_dev47_eq k0_dev48_eq k0_dev49_eq
  k0_dev50_eq k0_dev51_eq k0_dev52_eq k0_dev53_eq k0_dev54_eq k0_dev55_eq k0_dev56_eq k0_dev57_eq k0_dev58_eq k0_dev59_eq
  k0_dev60_eq k0_dev61_eq k0_dev62_eq

/-- The whole run. -/
theorem sound_body (K : Dev nD × CK → ℕ) (c : Dev nD) (Kt : PUnit → sProp 𝕄) :
    runPre m ρ K c iprop(restPre m ρ c ∗ (runPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) cc0_scratch1 cc0_scratch2) Kt := by
  generalize hR : (iprop(restPre m ρ c ∗ (runPost m ρ c -∗ Kt ⟨⟩)) : sProp 𝕄) = R
  unfold runPre
  rw [cc0_body_eq_skeleton]; unfold cc0_body_skel
  -- the barrier units
  rw [wp_bind, k0_part1_eq_skeleton]; unfold k0_part1_skel
  simp only [semSignalWord, Prog.lift, Prog.bind_op, Prog.bind_ret, Prog.pure_eq_ret, wp_deviceId]
  refine step_signal m ρ K c 1 (by decide) (by decide) (by simp) ?_
  iterate 4 refine step_signal m ρ K c _ (by decide) (by decide) (by simp) ?_
  refine part_ret ?_
  dsimp only
  generalize Scalar.addi _ _ = w24, Scalar.remsi _ _ = w2
  rw [wp_bind, k0_part2_eq_skeleton]; unfold k0_part2_skel
  simp only [semSignalWord, semWaitWord, Prog.lift, Prog.bind_op, Prog.bind_ret, Prog.pure_eq_ret]
  iterate 6 refine step_signal m ρ K c _ (by decide) (by decide) (by simp) ?_
  refine part_any fun _ => ?_
  rw [wp_bind, k0_part3_eq_skeleton]; unfold k0_part3_skel
  simp only [semSignalWord, semWaitWord, Prog.lift, Prog.bind_op, Prog.bind_ret, Prog.pure_eq_ret]
  iterate 6 refine step_signal m ρ K c _ (by decide) (by decide) (by simp) ?_
  refine part_any fun _ => ?_
  rw [wp_bind, k0_part4_eq_skeleton]; unfold k0_part4_skel
  simp only [semSignalWord, semWaitWord, Prog.lift, Prog.bind_op, Prog.bind_ret, Prog.pure_eq_ret]
  iterate 6 refine step_signal m ρ K c _ (by decide) (by decide) (by simp) ?_
  refine part_any fun _ => ?_
  rw [wp_bind, k0_part5_eq_skeleton]; unfold k0_part5_skel
  simp only [semSignalWord, semWaitWord, Prog.lift, Prog.bind_op, Prog.bind_ret, Prog.pure_eq_ret]
  iterate 6 refine step_signal m ρ K c _ (by decide) (by decide) (by simp) ?_
  refine part_any fun _ => ?_
  -- the last units, the barrier wait and the copies
  rw [wp_bind, k0_part6_eq_skeleton]; unfold k0_part6_skel
  simp only [semSignalWord, semWaitWord, Prog.lift, Prog.bind_op, Prog.bind_ret, Prog.pure_eq_ret]
  iterate 2 refine step_signal m ρ K c _ (by decide) (by decide) (by simp) ?_
  refine step_barrier m ρ K c ?_
  refine step_send m ρ K c 1 (by decide) (by decide) (by simp) (off2_at c 1 (by decide) (by decide)) (k0_off1_eq c) rfl rfl ?_
  refine part_any fun _ => ?_
  rw [wp_bind, k0_part7_eq_skeleton]; unfold k0_part7_skel
  simp only [semSignalWord, semWaitWord, Prog.lift, Prog.bind_op, Prog.bind_ret, Prog.pure_eq_ret]
  iterate 3 refine step_send m ρ K c _ (by decide) (by decide) (by simp) (off2_at c _ (by decide) (by decide)) (k0_off1_eq c) rfl rfl ?_
  refine part_any fun _ => ?_
  rw [wp_bind, k0_part8_eq_skeleton]; unfold k0_part8_skel
  simp only [semSignalWord, semWaitWord, Prog.lift, Prog.bind_op, Prog.bind_ret, Prog.pure_eq_ret]
  iterate 2 refine step_send m ρ K c _ (by decide) (by decide) (by simp) (off2_at c _ (by decide) (by decide)) (k0_off1_eq c) rfl rfl ?_
  refine part_any fun _ => ?_
  rw [wp_bind, k0_part9_eq_skeleton]; unfold k0_part9_skel
  simp only [semSignalWord, semWaitWord, Prog.lift, Prog.bind_op, Prog.bind_ret, Prog.pure_eq_ret]
  iterate 3 refine step_send m ρ K c _ (by decide) (by decide) (by simp) (off2_at c _ (by decide) (by decide)) (k0_off1_eq c) rfl rfl ?_
  refine part_any fun _ => ?_
  rw [wp_bind, k0_part10_eq_skeleton]; unfold k0_part10_skel
  simp only [semSignalWord, semWaitWord, Prog.lift, Prog.bind_op, Prog.bind_ret, Prog.pure_eq_ret]
  iterate 3 refine step_send m ρ K c _ (by decide) (by decide) (by simp) (off2_at c _ (by decide) (by decide)) (k0_off1_eq c) rfl rfl ?_
  refine part_any fun _ => ?_
  rw [wp_bind, k0_part11_eq_skeleton]; unfold k0_part11_skel
  simp only [semSignalWord, semWaitWord, Prog.lift, Prog.bind_op, Prog.bind_ret, Prog.pure_eq_ret]
  iterate 2 refine step_send m ρ K c _ (by decide) (by decide) (by simp) (off2_at c _ (by decide) (by decide)) (k0_off1_eq c) rfl rfl ?_
  refine part_any fun _ => ?_
  rw [wp_bind, k0_part12_eq_skeleton]; unfold k0_part12_skel
  simp only [semSignalWord, semWaitWord, Prog.lift, Prog.bind_op, Prog.bind_ret, Prog.pure_eq_ret]
  iterate 3 refine step_send m ρ K c _ (by decide) (by decide) (by simp) (off2_at c _ (by decide) (by decide)) (k0_off1_eq c) rfl rfl ?_
  refine part_any fun _ => ?_
  rw [wp_bind, k0_part13_eq_skeleton]; unfold k0_part13_skel
  simp only [semSignalWord, semWaitWord, Prog.lift, Prog.bind_op, Prog.bind_ret, Prog.pure_eq_ret]
  iterate 3 refine step_send m ρ K c _ (by decide) (by decide) (by simp) (off2_at c _ (by decide) (by decide)) (k0_off1_eq c) rfl rfl ?_
  refine part_any fun _ => ?_
  rw [wp_bind, k0_part14_eq_skeleton]; unfold k0_part14_skel
  simp only [semSignalWord, semWaitWord, Prog.lift, Prog.bind_op, Prog.bind_ret, Prog.pure_eq_ret]
  iterate 2 refine step_send m ρ K c _ (by decide) (by decide) (by simp) (off2_at c _ (by decide) (by decide)) (k0_off1_eq c) rfl rfl ?_
  refine part_any fun _ => ?_
  rw [wp_bind, k0_part15_eq_skeleton]; unfold k0_part15_skel
  simp only [semSignalWord, semWaitWord, Prog.lift, Prog.bind_op, Prog.bind_ret, Prog.pure_eq_ret]
  iterate 3 refine step_send m ρ K c _ (by decide) (by decide) (by simp) (off2_at c _ (by decide) (by decide)) (k0_off1_eq c) rfl rfl ?_
  refine part_any fun _ => ?_
  rw [wp_bind, k0_part16_eq_skeleton]; unfold k0_part16_skel
  simp only [semSignalWord, semWaitWord, Prog.lift, Prog.bind_op, Prog.bind_ret, Prog.pure_eq_ret]
  iterate 2 refine step_send m ρ K c _ (by decide) (by decide) (by simp) (off2_at c _ (by decide) (by decide)) (k0_off1_eq c) rfl rfl ?_
  refine part_any fun _ => ?_
  rw [wp_bind, k0_part17_eq_skeleton]; unfold k0_part17_skel
  simp only [semSignalWord, semWaitWord, Prog.lift, Prog.bind_op, Prog.bind_ret, Prog.pure_eq_ret]
  iterate 3 refine step_send m ρ K c _ (by decide) (by decide) (by simp) (off2_at c _ (by decide) (by decide)) (k0_off1_eq c) rfl rfl ?_
  refine part_any fun _ => ?_
  -- the last copy, the own block, and the waits for the other blocks
  rw [wp_bind, k0_part18_eq_skeleton]; unfold k0_part18_skel
  simp only [semSignalWord, semWaitWord, Prog.lift, Prog.bind_op, Prog.bind_ret, Prog.pure_eq_ret]
  refine step_send m ρ K c _ (by decide) (by decide) (by simp) (off2_at c _ (by decide) (by decide)) (k0_off1_eq c) rfl rfl ?_
  refine step_own m ρ K c (k0_off3_eq c) (k0_off4_eq c) ?_
  refine step_recv m ρ K c 1 (by decide) (by decide) rfl ?_
  refine step_recv m ρ K c _ (by decide) (by decide) rfl ?_
  refine part_any fun _ => ?_
  rw [wp_bind, k0_part19_eq_skeleton]; unfold k0_part19_skel
  simp only [semSignalWord, semWaitWord, Prog.lift, Prog.bind_op, Prog.bind_ret, Prog.pure_eq_ret]
  iterate 4 refine step_recv m ρ K c _ (by decide) (by decide) rfl ?_
  refine part_any fun _ => ?_
  rw [wp_bind, k0_part20_eq_skeleton]; unfold k0_part20_skel
  simp only [semSignalWord, semWaitWord, Prog.lift, Prog.bind_op, Prog.bind_ret, Prog.pure_eq_ret]
  iterate 4 refine step_recv m ρ K c _ (by decide) (by decide) rfl ?_
  refine part_any fun _ => ?_
  rw [wp_bind, k0_part21_eq_skeleton]; unfold k0_part21_skel
  simp only [semSignalWord, semWaitWord, Prog.lift, Prog.bind_op, Prog.bind_ret, Prog.pure_eq_ret]
  iterate 4 refine step_recv m ρ K c _ (by decide) (by decide) rfl ?_
  refine part_any fun _ => ?_
  rw [wp_bind, k0_part22_eq_skeleton]; unfold k0_part22_skel
  simp only [semSignalWord, semWaitWord, Prog.lift, Prog.bind_op, Prog.bind_ret, Prog.pure_eq_ret]
  iterate 4 refine step_recv m ρ K c _ (by decide) (by decide) rfl ?_
  refine part_any fun _ => ?_
  rw [wp_bind, k0_part23_eq_skeleton]; unfold k0_part23_skel
  simp only [semSignalWord, semWaitWord, Prog.lift, Prog.bind_op, Prog.bind_ret, Prog.pure_eq_ret]
  iterate 4 refine step_recv m ρ K c _ (by decide) (by decide) rfl ?_
  refine part_any fun _ => ?_
  rw [wp_bind, k0_part24_eq_skeleton]; unfold k0_part24_skel
  simp only [semSignalWord, semWaitWord, Prog.lift, Prog.bind_op, Prog.bind_ret, Prog.pure_eq_ret]
  iterate 4 refine step_recv m ρ K c _ (by decide) (by decide) rfl ?_
  refine part_any fun _ => ?_
  rw [wp_bind, k0_part25_eq_skeleton]; unfold k0_part25_skel
  simp only [semSignalWord, semWaitWord, Prog.lift, Prog.bind_op, Prog.bind_ret, Prog.pure_eq_ret]
  iterate 4 refine step_recv m ρ K c _ (by decide) (by decide) rfl ?_
  refine part_any fun _ => ?_
  -- the waits for the departures
  rw [wp_bind, k0_part26_eq_skeleton]; unfold k0_part26_skel
  simp only [semSignalWord, semWaitWord, Prog.lift, Prog.bind_op, Prog.bind_ret, Prog.pure_eq_ret]
  refine step_recv m ρ K c _ (by decide) (by decide) rfl ?_
  refine turn_sent m ρ K c ?_
  refine step_sent m ρ K c 1 (by decide) (by decide) rfl ?_
  iterate 3 refine step_sent m ρ K c _ (by decide) (by decide) rfl ?_
  refine part_any fun _ => ?_
  rw [wp_bind, k0_part27_eq_skeleton]; unfold k0_part27_skel
  simp only [semSignalWord, semWaitWord, Prog.lift, Prog.bind_op, Prog.bind_ret, Prog.pure_eq_ret]
  iterate 5 refine step_sent m ρ K c _ (by decide) (by decide) rfl ?_
  refine part_any fun _ => ?_
  rw [wp_bind, k0_part28_eq_skeleton]; unfold k0_part28_skel
  simp only [semSignalWord, semWaitWord, Prog.lift, Prog.bind_op, Prog.bind_ret, Prog.pure_eq_ret]
  iterate 5 refine step_sent m ρ K c _ (by decide) (by decide) rfl ?_
  refine part_any fun _ => ?_
  rw [wp_bind, k0_part29_eq_skeleton]; unfold k0_part29_skel
  simp only [semSignalWord, semWaitWord, Prog.lift, Prog.bind_op, Prog.bind_ret, Prog.pure_eq_ret]
  iterate 5 refine step_sent m ρ K c _ (by decide) (by decide) rfl ?_
  refine part_any fun _ => ?_
  rw [wp_bind, k0_part30_eq_skeleton]; unfold k0_part30_skel
  simp only [semSignalWord, semWaitWord, Prog.lift, Prog.bind_op, Prog.bind_ret, Prog.pure_eq_ret]
  iterate 5 refine step_sent m ρ K c _ (by decide) (by decide) rfl ?_
  refine part_any fun _ => ?_
  rw [wp_bind, k0_part31_eq_skeleton]; unfold k0_part31_skel
  simp only [semSignalWord, semWaitWord, Prog.lift, Prog.bind_op, Prog.bind_ret, Prog.pure_eq_ret]
  iterate 5 refine step_sent m ρ K c _ (by decide) (by decide) rfl ?_
  refine part_any fun _ => ?_
  -- the loads
  rw [wp_bind, k0_part32_eq_skeleton]; unfold k0_part32_skel
  simp only [semSignalWord, semWaitWord, Prog.lift, Prog.bind_op, Prog.bind_ret, Prog.pure_eq_ret]
  iterate 2 refine step_sent m ρ K c _ (by decide) (by decide) rfl ?_
  refine turn_loads m ρ K c ?_
  iterate 7 refine step_load m ρ c _ (hn := by decide) ?_
  refine part_ret ?_
  dsimp only
  rw [wp_bind, k0_part33_eq_skeleton]; unfold k0_part33_skel
  simp only [semSignalWord, semWaitWord, Prog.lift, Prog.bind_op, Prog.bind_ret, Prog.pure_eq_ret]
  iterate 12 refine step_load m ρ c _ (hn := by decide) ?_
  refine part_ret ?_
  dsimp only
  rw [wp_bind, k0_part34_eq_skeleton]; unfold k0_part34_skel
  simp only [semSignalWord, semWaitWord, Prog.lift, Prog.bind_op, Prog.bind_ret, Prog.pure_eq_ret]
  iterate 12 refine step_load m ρ c _ (hn := by decide) ?_
  refine part_ret ?_
  dsimp only
  refine step_load m ρ c _ (hn := by decide) ?_
  rw [← hR]
  exact step_result m ρ K c Kt

end Cert.Exchange

end
-- ==== Proof.Launch.lean ====
/-
# The launch

The run of one device placed into the pipeline that stages its operands, and the whole program's run.
-/
module

public import proofs.«01_k».proof.Proof.Setup
public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c`'s kernel starts from besides its staged operands: its share of the set-up, the levels, its waiting
    credit, and the gathering buffer at whatever it holds. -/
def start (c : Dev nD) : sProp 𝕄 :=
  iprop(G' m ρ c ∗ levAts L lv ∗ cred (tallyAt (barCell c) () 31) ∗ bigSep (up 1) fun d => cred (tallyAt (recvCell c d) () N))
def Φ₀ (c : Dev nD) : sProp 𝕄 := iprop(start m ρ c ∗ ∃ f, ((c : Thread nD τ).loc cc0_scratch0) ↦{fullShare} f)
/-- And what it leaves. -/
def Φ₁ (c : Dev nD) : sProp 𝕄 := iprop((((c : Thread nD τ).loc cc0_scratch0) ↦{fullShare} gathered m ρ c) ∗ semsZero c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

theorem fetch_x (t : Fin cfg0.N) : (cfg0.win (0 : Fin 3)).fetch t = true := by rw [fin_N t]; rfl
theorem fetch_w (t : Fin cfg0.N) : (cfg0.win (1 : Fin 3)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ m ρ c ∗ (dats m ρ 0 c).owesAt () t₀.succ
    ∗ stg c cc0_stg0_0 (xstg m ρ c) ∗ stg c cc0_stg1_0 (wstg m ρ c) ∗ stg c cc0_stg2_0 (outAt m ρ c))

omit [FloatOps F] in
/-- The positions of one device, by kind. -/
theorem positions_eq (c : Dev nD) :
    (bigSep Finset.univ fun k : CK => atPos ER (kcell (c, k)) 0 ∅ 0 : sProp 𝕄)
      = iprop(atPos ER (barCell c) 0 ∅ 0 ∗ (atPos ER (sendCell c 0) 0 ∅ 0 ∗ bigSep (up 1) fun d => atPos ER (sendCell c d) 0 ∅ 0)
          ∗ (atPos ER (recvCell c 0) 0 ∅ 0 ∗ bigSep (up 1) fun d => atPos ER (recvCell c d) 0 ∅ 0)) := by
  rw [bigSep_univ_sum, bigSep_univ_sum, show (Finset.univ : Finset Unit) = {()} from rfl, bigSep_singleton, up_one,
    bigSep_univ_at (fun d => atPos ER (kcell (c, Sum.inr (Sum.inl d))) 0 ∅ 0) 0,
    bigSep_univ_at (fun d => atPos ER (kcell (c, Sum.inr (Sum.inr d))) 0 ∅ 0) 0]
  rfl

omit [FloatOps F] in
/-- Of the duties device `c` pays, those in use. -/
theorem duties_used (c : Dev nD) : (payDuties c : sProp 𝕄)
    ⊢ iprop((bigSep (up 1) fun d => dutyTok ER (barCell (c + d)) 0 d) ∗ (bigSep (up 1) fun d => dutyTok ER (sendCell c d) 0 0)
      ∗ bigSep (up 1) fun d => dutyTok ER (recvCell (c + d) d) 0 0) :=
  BI.sep_mono (bigSep_subset (Finset.filter_subset _ _))
    (BI.sep_mono (bigSep_subset (Finset.filter_subset _ _)) (bigSep_subset (Finset.filter_subset _ _)))

omit [FloatOps F] in
/-- A whole buffer as the own piece and the pieces for the offsets in use. -/
theorem rows_split (c : Dev nD) :
    (((c : Thread nD τ).loc cc0_stg0_0) ↦{fullShare} xstg m ρ c : sProp 𝕄)
      = iprop(rowPts m ρ c c ∗ bigSep (up 1) fun d => rowPts m ρ c (c + d)) := by
  rw [rows_eq, up_one, ← rows_around c]
omit [FloatOps F] in
theorem slots_split (c : Dev nD) (f : (cc0_scratch0 : Ref sig .tc).ty.Contents (Elt F)) :
    (((c : Thread nD τ).loc cc0_scratch0) ↦{fullShare} f : sProp 𝕄)
      ⊢ iprop((∃ f, slotPts c c f) ∗ bigSep (up 1) fun d => iprop(∃ f, slotPts (F := F) c (c + d) f)) := by
  rw [slots_eq, up_one, ← rows_around c fun j => slotPts c j f]
  exact BI.sep_mono (show slotPts c c f ⊢ iprop(∃ f, slotPts c c f) by iintro H; iexists f; iexact H)
    (bigSep_mono fun d _ => show slotPts c (c + d) f ⊢ iprop(∃ f, slotPts (F := F) c (c + d) f) by
      iintro H; iexists f; iexact H)

theorem body_start (K : Dev nD × CK → ℕ) (c : Dev nD) (W : Waits sig Unit) (f0) (f2) (R : sProp 𝕄) :
    iprop(marks m ρ K ∗ mine c ∗ levAts L lv ∗ cred (tallyAt (barCell c) () 31)
        ∗ (bigSep (up 1) fun d => cred (tallyAt (recvCell c d) () N))
        ∗ (((c : Thread nD τ).loc cc0_scratch0) ↦{fullShare} f0) ∗ owes (c : Thread nD τ) (O₀ c) W
        ∗ (((c : Thread nD τ).loc cc0_stg0_0) ↦{fullShare} xstg m ρ c)
        ∗ (((c : Thread nD τ).loc cc0_stg1_0) ↦{fullShare} wstg m ρ c)
        ∗ (((c : Thread nD τ).loc cc0_stg2_0) ↦{fullShare} f2) ∗ R)
      ⊢ runPre m ρ K c iprop(restPre m ρ c ∗ R) := by
  rw [rows_split]
  unfold mine
  rw [positions_eq]
  iintro ⟨Hm, ⟨⟨HaB, ⟨HaS0, HaS⟩, ⟨HaR0, HaR⟩⟩, Hd⟩, Hl, HcB, HcR, Hscr, HO, ⟨Hx0, Hx⟩, Hw, Ho, HR⟩
  ihave Hd' := (duties_used (F := F) c) $$ Hd
  icases Hd' with ⟨HdB, HdS, HdR⟩
  ihave Hs := (slots_split (F := F) c f0) $$ Hscr
  icases Hs with ⟨Hs0, Hs⟩
  unfold runPre records marks owing
  icases Hm with ⟨Hi, Hr⟩
  isplitl [Hi Hr Hl]
  · isplitl [Hi]; · iexact Hi
    isplitl [Hr] <;> iassumption
  isplitl [HO]
  · iexists W; iexact HO
  isplitl [HdB Hs]
  · unfold barGift; rw [bigSep_sep']
    isplitl [HdB] <;> iassumption
  isplitl [HcB HaB Hx HdS HdR Hx0 Hs0 HcR HaR HaS]
  · isplitl [HcB]; · iexact HcB
    isplitl [HaB]; · iexact HaB
    isplitl [Hx HdS HdR]
    · unfold sendToks; rw [bigSep_sep', bigSep_sep']
      isplitl [Hx]; · iexact Hx
      isplitl [HdS] <;> iassumption
    unfold midPre recvDue; rw [bigSep_sep']
    isplitl [Hx0]; · iexact Hx0
    isplitl [Hs0]; · iexact Hs0
    isplitl [HcR HaR]
    · isplitl [HcR] <;> iassumption
    iexact HaS
  unfold restPre
  isplitr [HR]
  · isplitl [Hw]; · iexact Hw
    isplitl [Ho]; · iexists f2; iexact Ho
    isplitl [HaS0] <;> iassumption
  iexact HR

theorem body_end (c : Dev nD) : runPost m ρ c ⊢ bodyPost m ρ c := by
  unfold runPost bodyPost Φ₁ owing Dat.owesAt Pipeline.owesWithin
  iintro ⟨⟨%W, HO⟩, Hs, Hx, Hw, Ho, Hz⟩
  isplitl [Hs Hz]; · isplitl [Hs] <;> iassumption
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

set_option maxRecDepth 4000 in
theorem body_run (c : Dev nD) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_stg2_0) (Memref.isWhole_whole _)
        (Memref.whole cc0_scratch0) (Memref.isWhole_whole _) cc0_scratch1 cc0_scratch2) (fun _ => bodyPost m ρ c) := by
  unfold bodyPre Φ₀ start G' Dat.owesAt Pipeline.owesWithin
  iintro ⟨⟨⟨⟨%K, Hm, Hl⟩, Hv, HcB, HcR⟩, ⟨%f0, Hscr⟩⟩, ⟨%W, %hW, HO⟩, ⟨%d0, %g0, %hg0, Hx⟩, ⟨%d1, %g1, %hg1, Hw⟩, ⟨%d2, %g2, %hg2, Ho⟩⟩
  have hx : g0 = xstg m ρ c := by rw [hg0]; unfold Dat.before; rw [if_pos (fetch_x t₀)]; rfl
  have hw : g1 = wstg m ρ c := by rw [hg1]; unfold Dat.before; rw [if_pos (fetch_w t₀)]; rfl
  subst hx hw
  rw [show (dats m ρ 0 c).owed t₀.castSucc = O₀ c from rfl]
  iapply (sound_body m ρ K c fun _ => bodyPost m ρ c)
  iapply (body_start m ρ K c W f0 g2)
  isplitl [Hm]; · iexact Hm
  isplitl [Hl]; · iexact Hl
  isplitl [Hv]; · iexact Hv
  isplitl [HcB]; · iexact HcB
  isplitl [HcR]; · iexact HcR
  isplitl [Hscr]; · iexact Hscr
  isplitl [HO]; · iexact HO
  isplitl [Hx]; · iexact Hx
  isplitl [Hw]; · iexact Hw
  isplitl [Ho]; · iexact Ho
  iapply (body_end m ρ c)

set_option maxRecDepth 40000 in
theorem body_obligation (c : Dev nD) : BodyObligation (dats (F := F) m ρ 0 c) (defs₀ (F := F)) 𝒱₀ () Set.univ := fun t => by
  rw [fin_N t]
  rw [bigSep_W, bigSep_W]
  simp only [owns_whole_eq]
  exact body_run m ρ c

/-! ## The launch's side conditions -/

theorem share_eq (c : Dev nD) (w : Fin cfg0.W) : (dats m ρ 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [Hlev]; · iexact Hlev
    isplitl [H1] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ semsZero
  iintro ⟨Hr, HzB, Hz⟩
  isplitl [HzB]; · iexact HzB
  isplitl [Hz]; · iexact Hz
  iexists (gathered m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What array `w` of device `c` holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- For any float values, from any memory with all counters zero: every weakly fair execution terminates, each array at
    the contents computed and every semaphore back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands hold after the run what they held before. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.Exchange

end
-- ==== Proof.Silu.lean ====
/-
# What the kernel and the two host programs compute, over the extended reals

All three compute, at row `r` and column `n`, a function of `y = ∑ k, x (r, k) * w (k, n)`, with `x` the whole left
operand:

* the kernel `y * logistic y` (`kernel_out`): device `c` has gathered rows `32 c` to `32 c + 31` of `x`, one block of
  32 columns from each device, and multiplies them by `w`;
* the unclipped program `y / (1 + exp (-y))` (`silu_term`), which is the same number for every extended real `y`;
* the clipped program `y / (1 + exp (-y'))`, `y'` being `y` brought into `[-60, 60]` (`clipped_term`), which is the
  same number where `y` lies in that interval already (`mask_term`).
-/
module

public import proofs.«01_k».proof.Defs
public import proofs.«01_k».proof.Proof.Launch
public import proofs.«01_k».proof.Proof.Gen.On_unclipped
public import proofs.«01_k».proof.Proof.Gen.ReferenceIdeal
public import proofs.«01_k».proof.Proof.Gen.ReferenceIdeal.Run
public import proofs.«01_k».proof.Proof.Gen.SiluIdeal
public import proofs.«01_k».proof.Proof.Gen.SiluIdeal.Run
public import Idealize.ShloMosaic.Lib.MatmulPlain
public import Idealize.ShloMosaic.Lib.StackMember
public import Idealize.ShloMosaic.Lib.IdealHost
public import Idealize.ShloMosaic.Lib.ValueLayout
public import Idealize.ShloMosaic.Lib.Layout
public import Idealize.ShloMosaic.Lib.Pipeline.Value
public import Idealize.ShloMosaic.PureOps.Ideal.Laws

@[expose] public section

noncomputable section

namespace Cert.Exchange

open Idealize.ShloMosaic Idealize.ShloMosaic.TcCoe Idealize.ShloMosaic.ValueIdx Idealize.SL.Sem
open scoped BigOperators

/-! ## The mathematics -/

/-- A whole operand over the extended reals: 1024 rows of 1024. -/
abbrev Whole : Type := (⟨2, ![1024, 1024]⟩ : Shape).Idx → EReal

/-- Row `r` of `X` times column `n` of `W`. -/
def product (X W : Whole) (r n : Fin 1024) : EReal := ∑ k : Fin 1024, X (ix2 r k) * W (ix2 k n)

def silu (y : EReal) : EReal := Ideal.div y (1 + Ideal.exp (-y))

theorem exp_nonneg (y : EReal) : 0 ≤ Ideal.exp y := by
  induction y using EReal.rec with
  | bot => rw [Ideal.exp_bot]
  | top => rw [Ideal.exp_top]; exact le_top
  | coe r => rw [Ideal.exp_coe]; exact_mod_cast (Real.exp_pos r).le

theorem denom_ne_zero (y : EReal) : 1 + Ideal.exp (-y) ≠ 0 :=
  (lt_of_lt_of_le zero_lt_one (le_add_of_nonneg_right (exp_nonneg (-y)))).ne'

/-- Multiplying by the logistic function is dividing by `1 + exp (-y)`, at every extended real. -/
theorem mul_logistic (y : EReal) : y * Ideal.logistic y = silu y := by
  unfold silu Ideal.logistic Ideal.div
  rw [if_neg (denom_ne_zero y), if_neg (denom_ne_zero y), one_mul]

/-! ## The two host programs -/

theorem host_product (X W : Whole) (r n : Fin 1024) :
    Host.dotGeneral (F := Ideal) (φ₁ := .f32) (φ₂ := .f32) (DotDims.plain 1024 1024 1024) none X W (ix2 r n) = product X W r n :=
  StackMember.dotGeneral_plain_apply none X W r n

theorem silu_term (X W : Whole) (r n : Fin 1024) :
    (Host.divf (F := Ideal) (φ := .f32) (Host.dotGeneral (φ₁ := .f32) (φ₂ := .f32) Cert.SiluIdeal.dot_S1024x1024_S1024x1024_S1024x1024_1_0_0_1_n_n none X W)
      (addf (broadcastInDim Cert.SiluIdeal.S1024x1024 ![] Cert.SiluIdeal.Gen.bcast_S_S1024x1024 (constant Cert.SiluIdeal.S_ .f32 0x3F800000#32))
        (Host.exp (Host.negf (Host.dotGeneral (φ₁ := .f32) (φ₂ := .f32) Cert.SiluIdeal.dot_S1024x1024_S1024x1024_S1024x1024_1_0_0_1_n_n none X W))))
      : Whole) (ix2 r n) = silu (product X W r n) := by
  rw [← host_product X W r n, silu, ← Ideal.ofBits_one_f32]
  rfl

/-- The bounds of the clip. -/
def lo : EReal := Ideal.ofBits .f32 0xC2700000#32
def hi : EReal := Ideal.ofBits .f32 0x42700000#32

theorem clipped_term (X W : Whole) (r n : Fin 1024) :
    (Host.divf (F := Ideal) (φ := .f32) (Host.dotGeneral (φ₁ := .f32) (φ₂ := .f32) Cert.ReferenceIdeal.dot_S1024x1024_S1024x1024_S1024x1024_1_0_0_1_n_n none X W)
      (addf (broadcastInDim Cert.ReferenceIdeal.S1024x1024 ![] Cert.ReferenceIdeal.Gen.bcast_S_S1024x1024 (constant Cert.ReferenceIdeal.S_ .f32 0x3F800000#32))
        (Host.exp (Host.negf (minimumf (broadcastInDim Cert.ReferenceIdeal.S1024x1024 ![] Cert.ReferenceIdeal.Gen.bcast_S_S1024x1024 (id (constant Cert.ReferenceIdeal.S_ .f32 0x42700000#32)))
          (maximumf (broadcastInDim Cert.ReferenceIdeal.S1024x1024 ![] Cert.ReferenceIdeal.Gen.bcast_S_S1024x1024 (id (constant Cert.ReferenceIdeal.S_ .f32 0xC2700000#32)))
            (Host.dotGeneral (φ₁ := .f32) (φ₂ := .f32) Cert.ReferenceIdeal.dot_S1024x1024_S1024x1024_S1024x1024_1_0_0_1_n_n none X W))))))
      : Whole) (ix2 r n)
      = Ideal.div (product X W r n) (1 + Ideal.exp (-(min hi (max lo (product X W r n))))) := by
  rw [← host_product X W r n, ← Ideal.ofBits_one_f32]
  rfl

/-- What the mask says of an entry it sets. -/
theorem mask_term (X W : Whole) (r n : Fin 1024) (h : Cert.On_unclipped.fn (F := Ideal) X W (ix2 r n) = 1#1) :
    lo ≤ product X W r n ∧ product X W r n ≤ hi := by
  have e : Cert.On_unclipped.fn (F := Ideal) X W (ix2 r n)
      = BitVec.ofBool (decide (lo ≤ product X W r n)) &&& BitVec.ofBool (decide (product X W r n ≤ hi)) := by
    rw [← host_product X W r n]
    rfl
  rw [e] at h
  by_cases h1 : lo ≤ product X W r n
  · by_cases h2 : product X W r n ≤ hi
    · exact ⟨h1, h2⟩
    · rw [decide_eq_true h1, decide_eq_false h2] at h; exact absurd h (by decide)
  · rw [decide_eq_false h1] at h
    exact absurd h (by cases decide (product X W r n ≤ hi) <;> decide)

/-- There the clip changes nothing. -/
theorem clipped_eq {y : EReal} (h : lo ≤ y ∧ y ≤ hi) : Ideal.div y (1 + Ideal.exp (-(min hi (max lo y)))) = silu y := by
  rw [max_eq_right h.1, min_eq_right h.2]; rfl

/-! ## The kernel -/

section Kernel

open Cert.KernelIdeal Cert.KernelIdeal.Gen

variable {F : FTy → Type} [FloatOps F]
variable (m : (ℓ : Loc nD τ sig) → Buf (Elt F) ℓ) (ρ : Dev nD → PrngReg)

omit [FloatOps F] in
theorem xstg_eq (c : Dev nD) : xstg m ρ c = m ((c : Thread nD τ).loc main_arg0) :=
  Memref.read_access_unit_zero (Elt F) main_arg0 (funext fun a => by fin_cases a <;> decide) (fun a => by fin_cases a <;> decide) _
omit [FloatOps F] in
theorem wstg_eq (c : Dev nD) : wstg m ρ c = m ((c : Thread nD τ).loc main_arg1) :=
  Memref.read_access_unit_zero (Elt F) main_arg1 (funext fun a => by fin_cases a <;> decide) (fun a => by fin_cases a <;> decide) _

/-- The result array is one block, written once, at the only grid point: it ends at what the device wrote out. -/
theorem finalA_out (c : Dev nD) : finalA m ρ c (2 : Fin 3) = outAt m ρ c := by
  have whole : ∀ f, (win0_2.blk (0 : Fin 1)).view.read (Elt F) f = f := fun f =>
    Memref.read_access_unit_zero (Elt F) main_v1 (funext fun a => by fin_cases a <;> decide) (fun a => by fin_cases a <;> decide) f
  have step := (dats m ρ 0 c).arrAt_succ (2 : Fin 3) (0 : Fin 1)
  have flushes : (cfg0.win (2 : Fin 3)).flush (0 : Fin 1) = true := by decide
  simp only [flushes, if_true] at step
  exact (whole _).symm.trans ((congrArg _ step).trans (View.read_write_univ _ _))

/-- The kernel's concatenation, as one over the 32 slots. -/
theorem joined_eq (c : Dev nD) :
    joined m ρ c = concatenate S32x1024 1 (List.ofFn fun j : Fin 32 =>
      (⟨S32x32, shapeCast S32x32 (slotVal m ρ c j) shapeCasts_S1x32x32_S32x32⟩ : (s : Shape) × (s.Idx → F .bf16)))
      concatenates_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x1024_d1 :=
  rfl

/-- Column `k` of the gathered rows comes from device `k / 32`, where it is column `k % 32`. -/
abbrev owner (k : Fin 1024) : Fin 32 := ⟨k.val / 32, by omega⟩
abbrev within (k : Fin 1024) : Fin 32 := ⟨k.val % 32, by omega⟩

theorem joined_apply (c : Dev nD) (r : Fin 32) (k : Fin 1024) :
    joined m ρ c (ix2 r k : S32x1024.Idx) = xstg m ρ (owner k) (ix2 (rowIn c r) (within k) : S1024x32.Idx) := by
  rw [joined_eq]
  refine (concatenate_ofFn_apply (t := S32x1024) (s₁ := S32x32) (1 : Fin 2)
    (fun j : Fin 32 => shapeCast S32x32 (slotVal m ρ c j) shapeCasts_S1x32x32_S32x32) _ rfl 32 rfl (ix2 r k) (owner k) rfl
    (ix2 r (within k)) rfl (fun b hb => ?_)).trans ?_
  · match b with
    | ⟨0, _⟩ => rfl
    | ⟨1, _⟩ => exact absurd rfl hb
  · exact shapeCast_1ab_ab_apply (slotVal m ρ c (owner k)) shapeCasts_S1x32x32_S32x32 r (within k)

end Kernel

section Value

open Cert.KernelIdeal Cert.KernelIdeal.Gen

variable (m : (ℓ : Loc nD τ sig) → Buf (Elt Ideal) ℓ) (ρ : Dev nD → PrngReg)

theorem out_apply (c : Dev nD) (r : Fin 32) (n : Fin 1024) :
    outAt m ρ c (ix2 r n : S32x1024.Idx)
      = silu (∑ k : Fin 1024, joined m ρ c (ix2 r k : S32x1024.Idx) * wstg m ρ c (ix2 k n : S1024x1024.Idx)) := by
  have e : outAt m ρ c = mulf (φ := .f32) (matmul (φ₂ := .bf16) (DotDims.plain 32 1024 1024) none (joined m ρ c) (wstg m ρ c) (constant S32x1024 .f32 0x00000000#32))
      (logistic (matmul (φ₂ := .bf16) (DotDims.plain 32 1024 1024) none (joined m ρ c) (wstg m ρ c) (constant S32x1024 .f32 0x00000000#32))) := by
    unfold outAt k0_pay2
    rw [shapeCast_self]
    rfl
  have hy : FloatOps.matmul (φ₂ := .bf16) (DotDims.plain 32 1024 1024) none (joined m ρ c) (wstg m ρ c) (constant S32x1024 .f32 0x00000000#32) (ix2 r n)
      = ∑ k : Fin 1024, joined m ρ c (ix2 r k : S32x1024.Idx) * wstg m ρ c (ix2 k n : S1024x1024.Idx) := by
    refine (Ideal.matmul_plain_apply none _ _ _ r n).trans ?_
    show Ideal.ofBits .f32 0x00000000#32 + _ = _
    rw [Ideal.ofBits_zero_f32, zero_add]
  rw [e, ← mul_logistic, ← hy]
  rfl

/-- The whole operands, cut the way the claims cut them. -/
def Holds (X W : Whole) : Prop := ∀ c : Dev nD,
  m ((c.tc : Thread nD τ).loc main_arg0) = Layout.block ⟨2, ![1024, 32]⟩ ⟨2, ![1024, 1024]⟩ 1 32 c X
    ∧ m ((c.tc : Thread nD τ).loc main_arg1) = W

/-- Row `r` of device `c`'s result is row `32 c + r` of the whole. -/
theorem kernel_out {X W : Whole} (h : Holds m X W) (c : Dev nD) (r : Fin 32) (n : Fin 1024) :
    finalA m ρ c (2 : Fin 3) (ix2 r n : S32x1024.Idx) = silu (product X W (rowIn c r) n) := by
  rw [finalA_out, out_apply]
  refine congrArg silu (Finset.sum_congr rfl fun k _ => ?_)
  rw [joined_apply, xstg_eq, wstg_eq]
  refine congrArg₂ (· * ·) ?_ (congrFun (h c).2 _)
  refine (congrFun (h (owner k)).1 _).trans (congrArg X (funext fun a => Fin.ext ?_))
  match a with
  | ⟨0, _⟩ => rfl
  | ⟨1, _⟩ => exact Nat.div_add_mod' k.val 32

end Value

/-- An index of a device's result, in the whole result. -/
theorem block_rows {α : Type} (c : Fin 32) (v : (⟨2, ![1024, 1024]⟩ : Shape).Idx → α) (r : Fin 32) (n : Fin 1024) :
    Layout.block ⟨2, ![32, 1024]⟩ ⟨2, ![1024, 1024]⟩ 0 32 c v (by decide) (ix2 r n) = v (ix2 (rowIn c r) n) :=
  congrArg v (funext fun a => Fin.ext (by
    match a with
    | ⟨0, _⟩ => exact congrArg (· + r.val) (Nat.mul_comm c.val 32)
    | ⟨1, _⟩ => rfl))

end Cert.Exchange

end
-- ==== Proof.lean ====
/-
# The claims

The program's run is `Cert.Exchange.run_main`, for any float values; from it come both its frames and, with what the
device wrote out computed in `Proof/Silu.lean`, its two value claims. The two host programs are straight lines with no
semaphore.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.SiluIdeal
public import proofs.«01_k».proof.Proof.Gen.SiluIdeal.Run
public import proofs.«01_k».proof.Proof.Gen.On_unclipped
public import proofs.«01_k».proof.Proof.Silu
public import Idealize.ShloMosaic.Adequacy
public import Idealize.ShloMosaic.Init

@[expose] public section

noncomputable section

namespace Cert.Proof

open Idealize.ShloMosaic Idealize.ShloMosaic.ValueIdx Idealize.SL.Sem Cert.Exchange

/-! ## Frames -/

/-- For any float values: the operands end as they began and every semaphore at zero. -/
theorem frame_run {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
      ∧ r.2.sem = fun _ => 0 :=
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main m ρ)

/-- The program and its idealization are one text: their body tables agree label by label. -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

theorem defs_eq {F : FTy → Type} [FloatOps F] : Cert.Kernel.defs (F := F) = Cert.KernelIdeal.defs (F := F) :=
  congrArg (Pipeline.defs Cert.KernelIdeal.pcfgs) bodies_eq

theorem frame_kernel : Cert.quiescent_Kernel := fun m ρ _ => by
  rw [defs_eq]
  exact frame_run (F := Bits) m ρ

theorem frame_ideal : Cert.quiescent_KernelIdeal := fun m ρ _ => frame_run (F := Ideal) m ρ

theorem frame_clipped : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem frame_silu : Cert.quiescent_SiluIdeal := fun m ρ _ =>
  (θ_run Cert.SiluIdeal.defs _ _).mono
    (fun r h => ⟨fun c => (h c).2, sem_eq_zero_of_no_sems (by decide) r.2⟩)
    (Cert.SiluIdeal.Value.run (F := Ideal) m ρ)

/-! ## Values -/

/-- The whole result of a program that computes `silu` of the product. -/
def whole (X W : Whole) : Whole := fun i => silu (product X W (i 0) (i 1))

/-- Each device's result is its part of it. -/
theorem out_block (m : (ℓ : Loc Cert.KernelIdeal.nD Cert.KernelIdeal.τ Cert.KernelIdeal.sig) → Buf (Elt Ideal) ℓ)
    (ρ : Dev Cert.KernelIdeal.nD → PrngReg) {X W : Whole} (h : Holds m X W) (c : Dev Cert.KernelIdeal.nD) :
    finalA m ρ c (2 : Fin 3) = Layout.block ⟨2, ![32, 1024]⟩ ⟨2, ![1024, 1024]⟩ 0 32 c (whole X W) := by
  funext i
  rw [eq_ix2 i]
  exact (kernel_out m ρ h c (i 0) (i 1)).trans (block_rows c (whole X W) (i 0) (i 1)).symm

theorem value_silu : Cert.algebraic_KernelIdeal_SiluIdeal := fun m g m' g' _ hagree =>
  ⟨whole (m' (((0 : Dev Cert.SiluIdeal.nD).tc : Thread Cert.SiluIdeal.nD Cert.SiluIdeal.τ).loc Cert.SiluIdeal.main_arg0))
      (m' (((0 : Dev Cert.SiluIdeal.nD).tc : Thread Cert.SiluIdeal.nD Cert.SiluIdeal.τ).loc Cert.SiluIdeal.main_arg1)),
    (θ_run Cert.KernelIdeal.defs _ _).mono
      (fun _ h c => ⟨(h.1 c (2 : Fin 3)).trans (out_block m g hagree c), (h.1 c (0 : Fin 3)).trans (finalA_x m g c),
        (h.1 c (1 : Fin 3)).trans (finalA_w m g c)⟩)
      (run_main (F := Ideal) m g),
    (θ_run Cert.SiluIdeal.defs _ _).mono
      (fun _ h => ⟨(h 0).1.trans (funext fun i => by rw [eq_ix2 i]; exact silu_term _ _ (i 0) (i 1)), (h 0).2⟩)
      (Cert.SiluIdeal.Value.run (F := Ideal) m' g')⟩

theorem value_clipped : Cert.algebraic_KernelIdeal_ReferenceIdeal_on_unclipped := fun m g m' g' _ hagree =>
  ⟨whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨fun i _ => congrFun ((h.1 c (2 : Fin 3)).trans (out_block m g hagree c)) i,
        (h.1 c (0 : Fin 3)).trans (finalA_x m g c), (h.1 c (1 : Fin 3)).trans (finalA_w m g c)⟩)
      (run_main (F := Ideal) m g),
    (θ_run Cert.ReferenceIdeal.defs _ _).mono
      (fun _ h => ⟨fun i hi => (congrFun (h 0).1 i).trans (by
        rw [eq_ix2 i] at hi ⊢
        exact (clipped_term _ _ (i 0) (i 1)).trans (clipped_eq (mask_term _ _ (i 0) (i 1) hi))), (h 0).2⟩)
      (Cert.ReferenceIdeal.Value.run (F := Ideal) m' g')⟩

theorem claim : Cert.Claim :=
  ⟨Cert.Kernel.Gen.facts, Cert.KernelIdeal.Gen.facts, Cert.ReferenceIdeal.Gen.facts, Cert.SiluIdeal.Gen.facts,
    Cert.On_unclipped.Gen.facts, frame_kernel, frame_ideal, frame_clipped, frame_silu, trivial, value_silu, value_clipped⟩

end Cert.Proof

end
